-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_similarities_in_range [hPre_similarities_in_range : Cert.Pre_similarities_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_similarities_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_similarities_in_range [hPre_similarities_in_range : Cert.Pre_similarities_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_similarities_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_similarities_in_range [hKernelIdeal : Cert.KernelIdeal.Facts] [hPre_similarities_in_range : Cert.Pre_similarities_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_similarities_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_similarities_in_range [hReferenceIdeal : Cert.ReferenceIdeal.Facts] [hPre_similarities_in_range : Cert.Pre_similarities_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_similarities_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_similarities_in_range [hKernelIdeal : Cert.KernelIdeal.Facts] [hReferenceIdeal : Cert.ReferenceIdeal.Facts] [hPre_similarities_in_range : Cert.Pre_similarities_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_similarities_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_similarities_in_range : Cert.Pre_similarities_in_range.Facts),
    quiescent_Kernel (hKernel := hKernel)
    ∧ quiescent_KernelIdeal (hKernelIdeal := hKernelIdeal)
    ∧ quiescent_KernelIdeal_pre_similarities_in_range (hKernelIdeal := hKernelIdeal) (hPre_similarities_in_range := hPre_similarities_in_range)
    ∧ quiescent_ReferenceIdeal (hReferenceIdeal := hReferenceIdeal)
    ∧ quiescent_ReferenceIdeal_pre_similarities_in_range (hReferenceIdeal := hReferenceIdeal) (hPre_similarities_in_range := hPre_similarities_in_range)
    ∧ preserves_Kernel_KernelIdeal
    ∧ algebraic_KernelIdeal_ReferenceIdeal_pre_similarities_in_range (hKernelIdeal := hKernelIdeal) (hReferenceIdeal := hReferenceIdeal) (hPre_similarities_in_range := hPre_similarities_in_range)
-- ==== Pre_similarities_in_range.lean ====
abbrev S1024x128 : Shape := ⟨2, ![1024, 128]⟩
abbrev S1024 : Shape := ⟨1, ![1024]⟩
abbrev S128x1024 : Shape := ⟨2, ![128, 1024]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩

class Facts : Prop where
  transposes_S1024x128_S128x1024_1_0 : S1024x128.Transposes [1, 0] S128x1024
  bcast_S_S1024x1024 : S_.BroadcastsInDim S1024x1024 (![] : Fin 0 → Fin S1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_
  h_S_ : 0 < S_.numel
  dot_S1024x128_S128x1024_S1024x1024_1_0_0_1_n_n_wf : DotDims.WF S1024x128 S128x1024 S1024x1024 [1] [0] [0] [1] [] []

variable [Facts]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def fn {F : FTy → Type} [FloatOps F] (main_arg0 : FVec F S1024x128 .f32) (main_arg1 : IVec S1024 32) : IVec S_ 1 :=
  let main_v0 : FVec F S128x1024 .f32 := (transpose S128x1024 [1, 0] · transposes_S1024x128_S128x1024_1_0) main_arg0
  let main_v1 : FVec F S1024x1024 .f32 := (fun l r => Host.dotGeneral dot_S1024x128_S128x1024_S1024x1024_1_0_0_1_n_n none l r) main_arg0 main_v0
  let main_v2 : IVec S1024 32 := iotaInDim S1024 32 0
  let main_v3 : FVec F S1024x1024 .f32 := Host.absf main_v1
  let main_cst : FVec F S_ .f32 := constant S_ .f32 0x3F800000#32
  let main_v4 : FVec F S1024x1024 .f32 := broadcastInDim S1024x1024 ![] bcast_S_S1024x1024 main_cst
  let main_v5 : IVec S1024x1024 1 := cmpf .ole main_v3 main_v4
  let main_v6 : IVec S1024x1 32 := broadcastInDim S1024x1 ![0] bcast_S1024_S1024x1_0 main_v2
  let main_v7 : IVec S1x1024 32 := broadcastInDim S1x1024 ![1] bcast_S1024_S1x1024_1 main_v2
  let main_v8 : IVec S1024x1024 32 := broadcastInDim S1024x1024 ![0, 1] bcast_S1024x1_S1024x1024_0_1 main_v6
  let main_v9 : IVec S1024x1024 32 := broadcastInDim S1024x1024 ![0, 1] bcast_S1x1024_S1024x1024_0_1 main_v7
  let main_v10 : IVec S1024x1024 1 := cmpi .sge main_v8 main_v9
  let main_v11 : IVec S1024x1024 1 := ori main_v5 main_v10
  let main_c : IVec S_ 1 := constantI S_ 1 1#1
  let main_v12 : IVec S_ 1 := (fun x v => Host.reduce IntOp.andi x v reducesTo_S1024x1024_S_d0_1 h_S_) main_v11 main_c
  main_v12
-- ==== Kernel.lean ====
abbrev S1024x128 : Shape := ⟨2, ![1024, 128]⟩
abbrev S1024 : Shape := ⟨1, ![1024]⟩
abbrev S1024x1 : Shape := ⟨2, ![1024, 1]⟩
abbrev S8x1x128 : Shape := ⟨3, ![8, 1, 128]⟩
abbrev S8x1024 : Shape := ⟨2, ![8, 1024]⟩
abbrev S128x128 : Shape := ⟨2, ![128, 128]⟩
abbrev S1x128 : Shape := ⟨2, ![1, 128]⟩
abbrev S128x1 : Shape := ⟨2, ![128, 1]⟩
abbrev S1x1x128 : Shape := ⟨3, ![1, 1, 128]⟩
abbrev S128x1024 : Shape := ⟨2, ![128, 1024]⟩
abbrev S1x1024 : Shape := ⟨2, ![1, 1024]⟩
abbrev S128x384 : Shape := ⟨2, ![128, 384]⟩
abbrev S1x384 : Shape := ⟨2, ![1, 384]⟩
abbrev S64x128 : Shape := ⟨2, ![64, 128]⟩
abbrev S1x1 : Shape := ⟨2, ![1, 1]⟩
abbrev S51x128 : Shape := ⟨2, ![51, 128]⟩
abbrev S50x128 : Shape := ⟨2, ![50, 128]⟩
abbrev S1x51 : Shape := ⟨2, ![1, 51]⟩
abbrev S51x51 : Shape := ⟨2, ![51, 51]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S1024x1, .i32⟩
  | .hbm, ⟨3, _⟩ => ⟨S8x1x128, .i32⟩
  | .hbm, ⟨4, _⟩ => ⟨S8x1024, .f32⟩
  | .hbm, ⟨5, _⟩ => ⟨S8x1024, .f32⟩
  | .hbm, ⟨6, _⟩ => ⟨S64x128, .f32⟩
  | .hbm, ⟨7, _⟩ => ⟨S64x128, .f32⟩
  | .hbm, ⟨8, _⟩ => ⟨S1x1, .f32⟩
  | .hbm, ⟨9, _⟩ => ⟨S_, .f32⟩
  | .local _ .vmem, ⟨0, _⟩ => ⟨S1024x128, .f32⟩
  | .local _ .vmem, ⟨1, _⟩ => ⟨S1024x1, .i32⟩
  | .local _ .vmem, ⟨2, _⟩ => ⟨S8x1x128, .i32⟩
  | .local _ .vmem, ⟨3, _⟩ => ⟨S8x1024, .f32⟩
  | .local _ .vmem, ⟨4, _⟩ => ⟨S8x1024, .f32⟩
  | .local _ .vmem, ⟨5, _⟩ => ⟨S64x128, .f32⟩
  | .local _ .vmem, ⟨6, _⟩ => ⟨S64x128, .f32⟩
  | .local _ .vmem, ⟨7, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S1024x128 : Shape := ⟨2, ![1024, 128]⟩
abbrev S1024 : Shape := ⟨1, ![1024]⟩
abbrev S_ : Shape := ⟨0, ![]⟩
abbrev S128x1024 : Shape := ⟨2, ![128, 1024]⟩
abbrev S1024x1024 : Shape := ⟨2, ![1024, 1024]⟩
abbrev S1024x1 : Shape := ⟨2, ![1024, 1]⟩
abbrev S1x1024 : Shape := ⟨2, ![1, 1024]⟩
abbrev S51 : Shape := ⟨1, ![51]⟩
abbrev S1024x1024x1 : Shape := ⟨3, ![1024, 1024, 1]⟩

abbrev nBuf : Space → Nat
  | .hbm => 113
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S128x1024, .f32⟩
  | .hbm, ⟨6, _⟩ => ⟨S1024x1024, .f32⟩
  | .hbm, ⟨7, _⟩ => ⟨S1024, .i32⟩
  | .hbm, ⟨8, _⟩ => ⟨S1024x1, .i32⟩
  | .hbm, ⟨9, _⟩ => ⟨S1x1024, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1, .i32⟩
  | .hbm, ⟨14, _⟩ => ⟨S1x1024, .i32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .i32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .i32⟩
  | .hbm, ⟨40, _⟩ => ⟨S1024x1024, .i32⟩
  | .hbm, ⟨41, _⟩ => ⟨S1024x1024, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1024x1024, .i32⟩
  | .hbm, ⟨46, _⟩ => ⟨S1024x1024, .i32⟩
  | .hbm, ⟨47, _⟩ => ⟨S_, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S1024x1024, .f32⟩
  | .hbm, ⟨52, _⟩ => ⟨S_, .f32⟩
  | .hbm, ⟨53, _⟩ => ⟨S51, .f32⟩
  | .hbm, ⟨54, _⟩ => ⟨S1024x1024, .f32⟩
  | .hbm, ⟨55, _⟩ => ⟨S_, .i32⟩
  | .hbm, ⟨56, _⟩ => ⟨S1024x1024, .i32⟩
  | .hbm, ⟨57, _⟩ => ⟨S1024x1024, .i1⟩
  | .hbm, ⟨58, _⟩ => ⟨S_, .i32⟩
  | .hbm, ⟨59, _⟩ => ⟨S1024x1024, .i32⟩
  | .hbm, ⟨60, _⟩ => ⟨S1024x1024, .i32⟩
  | .hbm, ⟨61, _⟩ => ⟨S1024x1024, .i32⟩
  | .hbm, ⟨62, _⟩ => ⟨S1024x1024x1, .i32⟩
  | .hbm, ⟨63, _⟩ => ⟨S51, .f32⟩
  | .hbm, ⟨64, _⟩ => ⟨S1024x1024, .f32⟩
  | .hbm, ⟨65, _⟩ => ⟨S_, .i32⟩
  | .hbm, ⟨66, _⟩ => ⟨S1024x1024, .i32⟩
  | .hbm, ⟨67, _⟩ => ⟨S1024x1024, .i1⟩
  | .hbm, ⟨68, _⟩ => ⟨S_, .i32⟩
  | .hbm, ⟨69, _⟩ => ⟨S1024x1024, .i32⟩
  | .hbm, ⟨70, _⟩ => ⟨S1024x1024, .i32⟩
  | .hbm, ⟨71, _⟩ => ⟨S1024x1024, .i32⟩
  | .hbm, ⟨72, _⟩ => ⟨S1024x1024x1, .i32⟩
  | .hbm, ⟨73, _⟩ => ⟨S51, .f32⟩
  | .hbm, ⟨74, _⟩ => ⟨S_, .f32⟩
  | .hbm, ⟨75, _⟩ => ⟨S_, .f32⟩
  | .hbm, ⟨76, _⟩ => ⟨S51, .f32⟩
  | .hbm, ⟨77, _⟩ => ⟨S51, .f32⟩
  | .hbm, ⟨78, _⟩ => ⟨S1024x1024, .i1⟩
  | .hbm, ⟨79, _⟩ => ⟨S1024x1024, .i1⟩
  | .hbm, ⟨80, _⟩ => ⟨S1024x1024, .f32⟩
  | .hbm, ⟨81, _⟩ => ⟨S_, .f32⟩
  | .hbm, ⟨82, _⟩ => ⟨S51, .f32⟩
  | .hbm, ⟨83, _⟩ => ⟨S1024x1024, .f32⟩
  | .hbm, ⟨84, _⟩ => ⟨S_, .i32⟩
  | .hbm, ⟨85, _⟩ => ⟨S1024x1024, .i32⟩
  | .hbm, ⟨86, _⟩ => ⟨S1024x1024, .i1⟩
  | .hbm, ⟨87, _⟩ => ⟨S_, .i32⟩
  | .hbm, ⟨88, _⟩ => ⟨S1024x1024, .i32⟩
  | .hbm, ⟨89, _⟩ => ⟨S1024x1024, .i32⟩
  | .hbm, ⟨90, _⟩ => ⟨S1024x1024, .i32⟩
  | .hbm, ⟨91, _⟩ => ⟨S1024x1024x1, .i32⟩
  | .hbm, ⟨92, _⟩ => ⟨S51, .f32⟩
  | .hbm, ⟨93, _⟩ => ⟨S1024x1024, .f32⟩
  | .hbm, ⟨94, _⟩ => ⟨S_, .i32⟩
  | .hbm, ⟨95, _⟩ => ⟨S1024x1024, .i32⟩
  | .hbm, ⟨96, _⟩ => ⟨S1024x1024, .i1⟩
  | .hbm, ⟨97, _⟩ => ⟨S_, .i32⟩
  | .hbm, ⟨98, _⟩ => ⟨S1024x1024, .i32⟩
  | .hbm, ⟨99, _⟩ => ⟨S1024x1024, .i32⟩
  | .hbm, ⟨100, _⟩ => ⟨S1024x1024, .i32⟩
  | .hbm, ⟨101, _⟩ => ⟨S1024x1024x1, .i32⟩
  | .hbm, ⟨102, _⟩ => ⟨S51, .f32⟩
  | .hbm, ⟨103, _⟩ => ⟨S_, .f32⟩
  | .hbm, ⟨104, _⟩ => ⟨S_, .f32⟩
  | .hbm, ⟨105, _⟩ => ⟨S51, .f32⟩
  | .hbm, ⟨106, _⟩ => ⟨S51, .f32⟩
  | .hbm, ⟨107, _⟩ => ⟨S_, .f32⟩
  | .hbm, ⟨108, _⟩ => ⟨S_, .f32⟩
  | .hbm, ⟨109, _⟩ => ⟨S51, .f32⟩
  | .hbm, ⟨110, _⟩ => ⟨S51, .f32⟩
  | .hbm, ⟨111, _⟩ => ⟨S_, .f32⟩
  | .hbm, ⟨112, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_v34 : Ref sig .tc := ⟨.hbm, 41, rfl⟩
abbrev main_c_3 : Ref sig .tc := ⟨.hbm, 42, rfl⟩
abbrev main_c_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call1_call0_cst : Ref sig .tc := ⟨.hbm, 107, rfl⟩
abbrev main_call1_call0_v0 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩

abbrev nD : Nat := 1
abbrev τ : Topo := Topo.v7x

variable {F : FTy → Type} [FloatOps F]
-- ==== Proof.Hist.Body.lean ====
module

public import proofs.«01_k».proof.KernelIdeal

/-! The histogram kernel's body, written as a sequence of tiles: this module gives the tile programs,
and `body_eq` says that the printed body is that sequence. -/

@[expose] public section

noncomputable section

namespace Cert.Hist

open Idealize.ShloMosaic Idealize.SL.Sem Cert.KernelIdeal

variable {F : FTy → Type} [FloatOps F]
variable [Facts]
open Facts₀ Facts

/-- The programs of the kernel's thread. -/
abbrev Body (F : FTy → Type) (α : Type) := Prog (TpuEff nD τ sig (Elt F) Λ₀ .tc) α

/-- The ramp at one threshold, clamped to the unit interval: `min (max (sp - t) 0) 1`, the threshold given by
its float word. -/
def ramp (sp : FVec F S128x128 .f32) (w : BitVec 32) : FVec F S128x128 .bf16 :=
  minimumf (maximumf (truncf .bf16 (subf sp (broadcast S128x128 (Scalar.ofBits .f32 w))) bitsLt_bf16_f32)
    (broadcast S128x128 (Scalar.ofBits .bf16 0x0000#16))) (broadcast S128x128 (Scalar.ofBits .bf16 0x3F80#16))

/-- The row of ones that sums a tile's rows. -/
def onesRow : FVec F S1x128 .bf16 := broadcast S1x128 (Scalar.ofBits .bf16 0x3F80#16)

/-- The column sums of eight tiles laid side by side. -/
def sum8 (f : BitVec 32 → FVec F S128x128 .bf16) (w0 w1 w2 w3 w4 w5 w6 w7 : BitVec 32) : FVec F S1x1024 .f32 :=
  matmul dot_S1x128_S128x1024_S1x1024_1_0_0_1_n_n none onesRow
    (concatenate S128x1024 1 [⟨S128x128, f w0⟩, ⟨S128x128, f w1⟩, ⟨S128x128, f w2⟩, ⟨S128x128, f w3⟩,
      ⟨S128x128, f w4⟩, ⟨S128x128, f w5⟩, ⟨S128x128, f w6⟩, ⟨S128x128, f w7⟩]
      concatenates_S128x128_S128x128_S128x128_S128x128_S128x128_S128x128_S128x128_S128x128_S128x1024_d1)
    (constant S1x1024 .f32 0x00000000#32)

/-- The column sums of three tiles laid side by side. -/
def sum3 (f : BitVec 32 → FVec F S128x128 .bf16) (w0 w1 w2 : BitVec 32) : FVec F S1x384 .f32 :=
  matmul dot_S1x128_S128x384_S1x384_1_0_0_1_n_n none onesRow
    (concatenate S128x384 1 [⟨S128x128, f w0⟩, ⟨S128x128, f w1⟩, ⟨S128x128, f w2⟩]
      concatenates_S128x128_S128x128_S128x128_S128x384_d1)
    (constant S1x384 .f32 0x00000000#32)

/-- The column sums of one tile. -/
def sum1 (e : FVec F S128x128 .bf16) : FVec F S1x128 .f32 :=
  matmul dot_S1x128_S128x128_S1x128_1_0_0_1_n_n none onesRow e (constant S1x128 .f32 0x00000000#32)

/-- Add `v` to the row `g` of an accumulator, the row's whole width. -/
def addRow (m : Memref sig .tc .vmem S8x1024 .f32) (g : ℕ)
    (h : ∀ a, (![g, 0] : Fin 2 → Nat) a + S1x1024.size a ≤ S8x1024.size a) (v : FVec F S1x1024 .f32) : Body F PUnit := do
  let a : Vec F S1x1024 .f32 ← Prog.lift (.load m (Rect.unit (s := S8x1024) ![g, 0] S1x1024.size h).toLoadRect (View.loadsAt_vmem h_S1x1024))
  let _ : Vec F S1x1024 .f32 ← Prog.lift (.load m (Rect.unit (s := S8x1024) ![g, 0] S1x1024.size h).toLoadRect (View.loadsAt_vmem h_S1x1024))
  Prog.lift (.store m (Rect.unit (s := S8x1024) ![g, 0] S1x1024.size h) (addf (shapeCast S1x1024 a shapeCasts_S1x1024_S1x1024) v) Finset.univ (View.stores_vmem_bits_univ h_S1x1024 rfl) (.inl rfl))

/-- Add `v` to the first 384 lanes of an accumulator's row 6. -/
def addRow3 (m : Memref sig .tc .vmem S8x1024 .f32) (v : FVec F S1x384 .f32) : Body F PUnit := do
  let a : Vec F S1x384 .f32 ← Prog.lift (.load m (Rect.unit (s := S8x1024) ![6, 0] S1x384.size inb_S8x1024_S1x384_6_0).toLoadRect (View.loadsAt_vmem h_S1x384))
  let _ : Vec F S1x384 .f32 ← Prog.lift (.load m (Rect.unit (s := S8x1024) ![6, 0] S1x384.size inb_S8x1024_S1x384_6_0).toLoadRect (View.loadsAt_vmem h_S1x384))
  Prog.lift (.store m (Rect.unit (s := S8x1024) ![6, 0] S1x384.size inb_S8x1024_S1x384_6_0) (addf (shapeCast S1x384 a shapeCasts_S1x384_S1x384) v) Finset.univ (View.stores_vmem_bits_univ h_S1x384 rfl) (.inl rfl))

/-- Add `v` to the first 128 lanes of an accumulator's row 7. -/
def addRow1 (m : Memref sig .tc .vmem S8x1024 .f32) (v : FVec F S1x128 .f32) : Body F PUnit := do
  let a : Vec F S1x128 .f32 ← Prog.lift (.load m (Rect.unit (s := S8x1024) ![7, 0] S1x128.size inb_S8x1024_S1x128_7_0).toLoadRect (View.loadsAt_vmem h_S1x128))
  let _ : Vec F S1x128 .f32 ← Prog.lift (.load m (Rect.unit (s := S8x1024) ![7, 0] S1x128.size inb_S8x1024_S1x128_7_0).toLoadRect (View.loadsAt_vmem h_S1x128))
  Prog.lift (.store m (Rect.unit (s := S8x1024) ![7, 0] S1x128.size inb_S8x1024_S1x128_7_0) (addf (shapeCast S1x128 a shapeCasts_S1x128_S1x128) v) Finset.univ (View.stores_vmem_bits_univ h_S1x128 rfl) (.inl rfl))

/-- Zero an accumulator. -/
def zeroAcc (m : Memref sig .tc .vmem S8x1024 .f32) : Body F PUnit := do
  let _ : Vec F S8x1024 .f32 ← Prog.lift (.load m (Rect.unit (s := S8x1024) ![0, 0] S8x1024.size inb_S8x1024_S8x1024_0_0).toLoadRect (View.loadsAt_vmem h_S8x1024))
  Prog.lift (.store m (Rect.unit (s := S8x1024) ![0, 0] S8x1024.size inb_S8x1024_S8x1024_0_0) (broadcast S8x1024 (Scalar.ofBits .f32 0x00000000#32)) Finset.univ (View.stores_vmem_bits_univ h_S8x1024 rfl) (.inl rfl))

/-- One group of eight thresholds: row `g` of both accumulators. -/
def group8 (mp ma : Memref sig .tc .vmem S8x1024 .f32) (fa fp : BitVec 32 → FVec F S128x128 .bf16) (g : ℕ)
    (h : ∀ a, (![g, 0] : Fin 2 → Nat) a + S1x1024.size a ≤ S8x1024.size a) (w0 w1 w2 w3 w4 w5 w6 w7 : BitVec 32) : Body F PUnit := do
  addRow ma g h (sum8 fa w0 w1 w2 w3 w4 w5 w6 w7)
  addRow mp g h (sum8 fp w0 w1 w2 w3 w4 w5 w6 w7)

/-- All 51 thresholds of one tile, and the count of equal labels: `fa` gives the summand of all pairs at a
threshold, `fp` that of the pairs with equal labels, `e` the weights of the equal labels. -/
def sweep (mp ma : Memref sig .tc .vmem S8x1024 .f32) (fa fp : BitVec 32 → FVec F S128x128 .bf16)
    (e : FVec F S128x128 .bf16) : Body F PUnit := do
  group8 mp ma fa fp 0 inb_S8x1024_S1x1024_0_0 0x00000000#32 0x3F800000#32 0x40000000#32 0x40400000#32 0x40800000#32 0x40A00000#32 0x40C00000#32 0x40E00000#32
  group8 mp ma fa fp 1 inb_S8x1024_S1x1024_1_0 0x41000000#32 0x41100000#32 0x41200000#32 0x41300000#32 0x41400000#32 0x41500000#32 0x41600000#32 0x41700000#32
  group8 mp ma fa fp 2 inb_S8x1024_S1x1024_2_0 0x41800000#32 0x41880000#32 0x41900000#32 0x41980000#32 0x41A00000#32 0x41A80000#32 0x41B00000#32 0x41B80000#32
  group8 mp ma fa fp 3 inb_S8x1024_S1x1024_3_0 0x41C00000#32 0x41C80000#32 0x41D00000#32 0x41D80000#32 0x41E00000#32 0x41E80000#32 0x41F00000#32 0x41F80000#32
  group8 mp ma fa fp 4 inb_S8x1024_S1x1024_4_0 0x42000000#32 0x42040000#32 0x42080000#32 0x420C0000#32 0x42100000#32 0x42140000#32 0x42180000#32 0x421C0000#32
  group8 mp ma fa fp 5 inb_S8x1024_S1x1024_5_0 0x42200000#32 0x42240000#32 0x42280000#32 0x422C0000#32 0x42300000#32 0x42340000#32 0x42380000#32 0x423C0000#32
  addRow3 ma (sum3 fa 0x42400000#32 0x42440000#32 0x42480000#32)
  addRow3 mp (sum3 fp 0x42400000#32 0x42440000#32 0x42480000#32)
  addRow1 mp (sum1 e)

/-- The tile's place on the bins' scale: `25 s + 25` for the similarities `s` of its rows with its columns. -/
def place (xr xc : FVec F S128x128 .f32) : FVec F S128x128 .f32 :=
  addf (mulf (matmul dot_S128x128_S128x128_S128x128_1_1_0_0_n_n none xr xc (constant S128x128 .f32 0x00000000#32))
    (broadcast S128x128 (Scalar.ofBits .f32 0x41C80000#32))) (broadcast S128x128 (Scalar.ofBits .f32 0x41C80000#32))

/-- Where the labels of a tile's rows and columns agree. -/
def eqLab (lr : IVec S128x1 32) (lc : IVec S1x1x128 32) : IVec S128x128 1 :=
  cmpi .eq (broadcastTo S128x128 lr broadcasts_S128x1_S128x128)
    (broadcastTo S128x128 (shapeCast S1x128 lc shapeCasts_S1x1x128_S1x128) broadcasts_S1x128_S128x128)

/-- The weights of a diagonal tile: a half off its diagonal, nothing on it. -/
def diagW : FVec F S128x128 .f32 :=
  select (cmpi .eq (iota .tc S128x128 32 [0] iota_S128x128_d0_w32) (iota .tc S128x128 32 [1] iota_S128x128_d1_w32))
    (broadcast S128x128 (Scalar.ofBits .f32 0x00000000#32)) (broadcast S128x128 (Scalar.ofBits .f32 0x3F000000#32))

/-- The weights of a diagonal tile's pairs with equal labels. -/
def diagE (q : IVec S128x128 1) : FVec F S128x128 .bf16 :=
  truncf .bf16 (select q diagW (broadcast S128x128 (Scalar.ofBits .f32 0x00000000#32))) bitsLt_bf16_f32

/-- The weights of another tile's pairs with equal labels. -/
def offE (q : IVec S128x128 1) : FVec F S128x128 .bf16 :=
  truncf .bf16 (select q (broadcast S128x128 (Scalar.ofBits .f32 0x3F800000#32))
    (broadcast S128x128 (Scalar.ofBits .f32 0x00000000#32))) bitsLt_bf16_f32

theorem rowOk (b : Fin 8) : ∀ a, (![128 * b.val, 0] : Fin 2 → Nat) a + S128x128.size a ≤ S1024x128.size a := by
  intro a; fin_cases b <;> fin_cases a <;> decide
theorem labOk (b : Fin 8) : ∀ a, (![128 * b.val, 0] : Fin 2 → Nat) a + S128x1.size a ≤ S1024x1.size a := by
  intro a; fin_cases b <;> fin_cases a <;> decide
theorem colOk (b : Fin 8) : ∀ a, (![b.val, 0, 0] : Fin 3 → Nat) a + S1x1x128.size a ≤ S8x1x128.size a := by
  intro a; fin_cases b <;> fin_cases a <;> decide

/-- Load the rows of block `b`. -/
def loadX (mx : Memref sig .tc .vmem S1024x128 .f32) (b : Fin 8) : Body F (Vec F S128x128 .f32) :=
  Prog.lift (.load mx (Rect.unit (s := S1024x128) ![128 * b.val, 0] S128x128.size (rowOk b)).toLoadRect (View.loadsAt_vmem h_S128x128))

/-- Load the row labels of block `b`. -/
def loadL (ml : Memref sig .tc .vmem S1024x1 .i32) (b : Fin 8) : Body F (Vec F S128x1 .i32) :=
  Prog.lift (.load ml (Rect.unit (s := S1024x1) ![128 * b.val, 0] S128x1.size (labOk b)).toLoadRect (View.loadsAt_vmem h_S128x1))

/-- Load the column labels of block `b`. -/
def loadC (mc : Memref sig .tc .vmem S8x1x128 .i32) (b : Fin 8) : Body F (Vec F S1x1x128 .i32) :=
  Prog.lift (.load mc (Rect.unit (s := S8x1x128) ![b.val, 0, 0] S1x1x128.size (colOk b)).toLoadRect (View.loadsAt_vmem h_S1x1x128))

/-- A diagonal tile. -/
def diagTile (mx : Memref sig .tc .vmem S1024x128 .f32) (mc : Memref sig .tc .vmem S8x1x128 .i32)
    (mp ma : Memref sig .tc .vmem S8x1024 .f32) (xr : Vec F S128x128 .f32) (lr : Vec F S128x1 .i32) (b : Fin 8) : Body F PUnit := do
  let xc ← loadX mx b
  let lc ← loadC mc b
  sweep mp ma (fun w => mulf (ramp (place xr xc) w) (truncf .bf16 diagW bitsLt_bf16_f32))
    (fun w => mulf (ramp (place xr xc) w) (diagE (eqLab (shapeCast S128x1 lr shapeCasts_S128x1_S128x1) lc)))
    (diagE (eqLab (shapeCast S128x1 lr shapeCasts_S128x1_S128x1) lc))

/-- A tile above the diagonal. -/
def offTile (mx : Memref sig .tc .vmem S1024x128 .f32) (mc : Memref sig .tc .vmem S8x1x128 .i32)
    (mp ma : Memref sig .tc .vmem S8x1024 .f32) (xr : Vec F S128x128 .f32) (lr : Vec F S128x1 .i32) (b : Fin 8) : Body F PUnit := do
  let xc ← loadX mx b
  let lc ← loadC mc b
  sweep mp ma (ramp (place xr xc))
    (fun w => mulf (ramp (place xr xc) w) (offE (eqLab (shapeCast S128x1 lr shapeCasts_S128x1_S128x1) lc)))
    (offE (eqLab (shapeCast S128x1 lr shapeCasts_S128x1_S128x1) lc))

/-- The tiles of a row of tiles above the diagonal, one after the other. -/
def offTiles (mx : Memref sig .tc .vmem S1024x128 .f32) (mc : Memref sig .tc .vmem S8x1x128 .i32)
    (mp ma : Memref sig .tc .vmem S8x1024 .f32) (xr : Vec F S128x128 .f32) (lr : Vec F S128x1 .i32) (cs : List (Fin 8)) : Body F PUnit :=
  cs.foldr (fun b p => offTile mx mc mp ma xr lr b >>= fun _ => p) (pure ⟨⟩)

/-- One row of tiles: its diagonal tile, then the tiles of `cs`. -/
def rowTiles (mx : Memref sig .tc .vmem S1024x128 .f32) (ml : Memref sig .tc .vmem S1024x1 .i32)
    (mc : Memref sig .tc .vmem S8x1x128 .i32) (mp ma : Memref sig .tc .vmem S8x1024 .f32) (b : Fin 8) (cs : List (Fin 8)) : Body F PUnit := do
  let xr ← loadX mx b
  let lr ← loadL ml b
  diagTile mx mc mp ma xr lr b
  offTiles mx mc mp ma xr lr cs

/-- The rows of tiles in `rs`, each with the column blocks of its tiles above the diagonal. -/
def allRows (mx : Memref sig .tc .vmem S1024x128 .f32) (ml : Memref sig .tc .vmem S1024x1 .i32)
    (mc : Memref sig .tc .vmem S8x1x128 .i32) (mp ma : Memref sig .tc .vmem S8x1024 .f32) (rs : List (Fin 8 × List (Fin 8))) : Body F PUnit :=
  rs.foldr (fun r p => rowTiles mx ml mc mp ma r.1 r.2 >>= fun _ => p) (pure ⟨⟩)

/-- The rows of tiles of the upper triangle. -/
def upper : List (Fin 8 × List (Fin 8)) :=
  [(0, [1, 2, 3, 4, 5, 6, 7]), (1, [2, 3, 4, 5, 6, 7]), (2, [3, 4, 5, 6, 7]), (3, [4, 5, 6, 7]), (4, [5, 6, 7]),
    (5, [6, 7]), (6, [7]), (7, [])]

/-- The body as a sequence of tiles. -/
def body (mx : Memref sig .tc .vmem S1024x128 .f32) (ml : Memref sig .tc .vmem S1024x1 .i32)
    (mc : Memref sig .tc .vmem S8x1x128 .i32) (mp ma : Memref sig .tc .vmem S8x1024 .f32) : Body F PUnit := do
  zeroAcc mp
  zeroAcc ma
  allRows mx ml mc mp ma upper

end Cert.Hist
-- ==== Proof.Hist.BodyEq.lean ====
module

public import proofs.«01_k».proof.Proof.Hist.Body
public import Idealize.ShloMosaic.Lib.Tactic

/-! The printed body is the sequence of tiles. -/

@[expose] public section

noncomputable section

namespace Cert.Hist

open Idealize.ShloMosaic Idealize.SL.Sem Cert.KernelIdeal

variable {F : FTy → Type} [FloatOps F] [Facts]

/-- The printed body is the sequence of tiles `body`. -/
theorem body_eq (arg0 : Memref sig .tc .vmem S1024x128 .f32) (harg0 : arg0.IsWhole) (arg1 : Memref sig .tc .vmem S1024x1 .i32) (harg1 : arg1.IsWhole) (arg2 : Memref sig .tc .vmem S8x1x128 .i32) (harg2 : arg2.IsWhole) (arg3 : Memref sig .tc .vmem S8x1024 .f32) (harg3 : arg3.IsWhole) (arg4 : Memref sig .tc .vmem S8x1024 .f32) (harg4 : arg4.IsWhole) :
    cc0__hist_body (F := F) arg0 harg0 arg1 harg1 arg2 harg2 arg3 harg3 arg4 harg4 = body arg0 arg1 arg2 arg3 arg4 := by
  sl_kernel_rfl

end Cert.Hist
-- ==== Proof.Hist.Run.lean ====
module

public import proofs.«01_k».proof.Proof.Hist.Body
public import proofs.«01_k».proof.Proof.Gen.KernelIdeal.Launch
public import Idealize.ShloMosaic.Lib.VecWindow
public import Idealize.ShloMosaic.Lib.Pipeline.FrameBody
public import Idealize.ShloMosaic.Lib.Tactic

/-! What the histogram kernel's body leaves in its two accumulators, as functions of its three inputs, and the
proof that running the body leaves that. -/

@[expose] public section

noncomputable section

namespace Cert.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable [Facts]
open Facts₀ Facts

local notation "𝕄" => MT nD τ sig Unit (Elt F) ℕ (UR sig nD τ) ℕ

/-! ## The contents -/

/-- An accumulator. -/
abbrev Acc (F : FTy → Type) := Vec F S8x1024 .f32

/-- An accumulator with `v` added to its row `g`. -/
def addRowV (g : ℕ) (h : ∀ a, (![g, 0] : Fin 2 → Nat) a + S1x1024.size a ≤ S8x1024.size a) (v : FVec F S1x1024 .f32) (A : Acc F) : Acc F :=
  VecWindow.put A ![g, 0] S1x1024.size
    (addf (shapeCast S1x1024 (VecWindow.window A ![g, 0] S1x1024.size h : Vec F S1x1024 .f32) shapeCasts_S1x1024_S1x1024) v)

/-- An accumulator with `v` added to the first 384 lanes of its row 6. -/
def addRow3V (v : FVec F S1x384 .f32) (A : Acc F) : Acc F :=
  VecWindow.put A ![6, 0] S1x384.size
    (addf (shapeCast S1x384 (VecWindow.window A ![6, 0] S1x384.size inb_S8x1024_S1x384_6_0 : Vec F S1x384 .f32) shapeCasts_S1x384_S1x384) v)

/-- An accumulator with `v` added to the first 128 lanes of its row 7. -/
def addRow1V (v : FVec F S1x128 .f32) (A : Acc F) : Acc F :=
  VecWindow.put A ![7, 0] S1x128.size
    (addf (shapeCast S1x128 (VecWindow.window A ![7, 0] S1x128.size inb_S8x1024_S1x128_7_0 : Vec F S1x128 .f32) shapeCasts_S1x128_S1x128) v)

/-- An accumulator after one tile's 51 thresholds, `f` giving the summand at a threshold. -/
def sweepV (f : BitVec 32 → FVec F S128x128 .bf16) (A : Acc F) : Acc F :=
  addRow3V (sum3 f 0x42400000#32 0x42440000#32 0x42480000#32)
  (addRowV 5 inb_S8x1024_S1x1024_5_0 (sum8 f 0x42200000#32 0x42240000#32 0x42280000#32 0x422C0000#32 0x42300000#32 0x42340000#32 0x42380000#32 0x423C0000#32)
  (addRowV 4 inb_S8x1024_S1x1024_4_0 (sum8 f 0x42000000#32 0x42040000#32 0x42080000#32 0x420C0000#32 0x42100000#32 0x42140000#32 0x42180000#32 0x421C0000#32)
  (addRowV 3 inb_S8x1024_S1x1024_3_0 (sum8 f 0x41C00000#32 0x41C80000#32 0x41D00000#32 0x41D80000#32 0x41E00000#32 0x41E80000#32 0x41F00000#32 0x41F80000#32)
  (addRowV 2 inb_S8x1024_S1x1024_2_0 (sum8 f 0x41800000#32 0x41880000#32 0x41900000#32 0x41980000#32 0x41A00000#32 0x41A80000#32 0x41B00000#32 0x41B80000#32)
  (addRowV 1 inb_S8x1024_S1x1024_1_0 (sum8 f 0x41000000#32 0x41100000#32 0x41200000#32 0x41300000#32 0x41400000#32 0x41500000#32 0x41600000#32 0x41700000#32)
  (addRowV 0 inb_S8x1024_S1x1024_0_0 (sum8 f 0x00000000#32 0x3F800000#32 0x40000000#32 0x40400000#32 0x40800000#32 0x40A00000#32 0x40C00000#32 0x40E00000#32) A))))))

/-- The rows of block `b`. -/
def blkX (x : Vec F S1024x128 .f32) (b : Fin 8) : Vec F S128x128 .f32 :=
  VecWindow.window x ![128 * b.val, 0] S128x128.size (rowOk b)

/-- The row labels of block `b`. -/
def blkL (l : Vec F S1024x1 .i32) (b : Fin 8) : Vec F S128x1 .i32 :=
  VecWindow.window l ![128 * b.val, 0] S128x1.size (labOk b)

/-- The column labels of block `b`. -/
def blkC (l : Vec F S8x1x128 .i32) (b : Fin 8) : Vec F S1x1x128 .i32 :=
  VecWindow.window l ![b.val, 0, 0] S1x1x128.size (colOk b)

/-- Where a tile's labels agree. -/
def tileQ (x1 : Vec F S1024x1 .i32) (x2 : Vec F S8x1x128 .i32) (a b : Fin 8) : IVec S128x128 1 :=
  eqLab (shapeCast S128x1 (blkL (F := F) x1 a : IVec S128x1 32) shapeCasts_S128x1_S128x1) (blkC (F := F) x2 b : IVec S1x1x128 32)

/-- A tile's places. -/
def tileS (x0 : Vec F S1024x128 .f32) (a b : Fin 8) : FVec F S128x128 .f32 := place (blkX x0 a) (blkX x0 b)

/-- The accumulator of all pairs after a diagonal tile. -/
def diagA (x0 : Vec F S1024x128 .f32) (a : Fin 8) (A : Acc F) : Acc F :=
  sweepV (fun w => mulf (ramp (tileS x0 a a) w) (truncf .bf16 diagW bitsLt_bf16_f32)) A

/-- The accumulator of pairs with equal labels after a diagonal tile. -/
def diagP (x0 : Vec F S1024x128 .f32) (x1 : Vec F S1024x1 .i32) (x2 : Vec F S8x1x128 .i32) (a : Fin 8) (A : Acc F) : Acc F :=
  addRow1V (sum1 (diagE (tileQ x1 x2 a a))) (sweepV (fun w => mulf (ramp (tileS x0 a a) w) (diagE (tileQ x1 x2 a a))) A)

/-- The accumulator of all pairs after a tile above the diagonal. -/
def offA (x0 : Vec F S1024x128 .f32) (a b : Fin 8) (A : Acc F) : Acc F := sweepV (ramp (tileS x0 a b)) A

/-- The accumulator of pairs with equal labels after a tile above the diagonal. -/
def offP (x0 : Vec F S1024x128 .f32) (x1 : Vec F S1024x1 .i32) (x2 : Vec F S8x1x128 .i32) (a b : Fin 8) (A : Acc F) : Acc F :=
  addRow1V (sum1 (offE (tileQ x1 x2 a b))) (sweepV (fun w => mulf (ramp (tileS x0 a b) w) (offE (tileQ x1 x2 a b))) A)

/-- The accumulator of all pairs after the rows of tiles `rs`. -/
def rowsA (x0 : Vec F S1024x128 .f32) (rs : List (Fin 8 × List (Fin 8))) (A : Acc F) : Acc F :=
  rs.foldl (fun A r => r.2.foldl (fun A b => offA x0 r.1 b A) (diagA x0 r.1 A)) A

/-- The accumulator of pairs with equal labels after the rows of tiles `rs`. -/
def rowsP (x0 : Vec F S1024x128 .f32) (x1 : Vec F S1024x1 .i32) (x2 : Vec F S8x1x128 .i32) (rs : List (Fin 8 × List (Fin 8))) (A : Acc F) : Acc F :=
  rs.foldl (fun A r => r.2.foldl (fun A b => offP x0 x1 x2 r.1 b A) (diagP x0 x1 x2 r.1 A)) A

/-- The zero accumulator. -/
def acc0 : Acc F := broadcast S8x1024 (Scalar.ofBits .f32 0x00000000#32)

/-! ## One access -/

variable (c : Dev nD)

/-- Zeroing an accumulator. -/
theorem zeroAcc_run (m : Memref sig .tc .vmem S8x1024 .f32) (A : Acc F) (E : Set ℕ) (K : PUnit → sProp 𝕄) :
    iprop(owns (c : Thread nD τ) m fullShare A ∗ (owns (c : Thread nD τ) m fullShare (acc0 : Acc F) -∗ K ⟨⟩))
      ⊢ wp frame (wpE (defs₀ (F := F)) Variants.none c none) E (zeroAcc m) K := by
  unfold zeroAcc owns
  iintro ⟨⟨%f, %hf, H⟩, Hk⟩
  sl_exec
  sl_step
  iapply Hk
  iexists _; isplitr
  swap; · iexact H
  ipureintro
  exact View.read_writes_full m.view f inb_S8x1024_S8x1024_0_0 _ _

/-- Adding to a row of an accumulator. -/
theorem addRow_run (m : Memref sig .tc .vmem S8x1024 .f32) (A : Acc F) (g : ℕ)
    (h : ∀ a, (![g, 0] : Fin 2 → Nat) a + S1x1024.size a ≤ S8x1024.size a) (v : FVec F S1x1024 .f32) (E : Set ℕ) (K : PUnit → sProp 𝕄) :
    iprop(owns (c : Thread nD τ) m fullShare A ∗ (owns (c : Thread nD τ) m fullShare (addRowV g h v A) -∗ K ⟨⟩))
      ⊢ wp frame (wpE (defs₀ (F := F)) Variants.none c none) E (addRow m g h v) K := by
  unfold addRow owns
  iintro ⟨⟨%f, %hf, H⟩, Hk⟩
  sl_exec
  sl_step
  iapply Hk
  iexists _; isplitr
  swap; · iexact H
  ipureintro
  subst hf
  exact View.read_writes_cons_put m.view f h _ [] rfl

/-- Adding to row 6. -/
theorem addRow3_run (m : Memref sig .tc .vmem S8x1024 .f32) (A : Acc F) (v : FVec F S1x384 .f32) (E : Set ℕ) (K : PUnit → sProp 𝕄) :
    iprop(owns (c : Thread nD τ) m fullShare A ∗ (owns (c : Thread nD τ) m fullShare (addRow3V v A) -∗ K ⟨⟩))
      ⊢ wp frame (wpE (defs₀ (F := F)) Variants.none c none) E (addRow3 m v) K := by
  unfold addRow3 owns
  iintro ⟨⟨%f, %hf, H⟩, Hk⟩
  sl_exec
  sl_step
  iapply Hk
  iexists _; isplitr
  swap; · iexact H
  ipureintro
  subst hf
  exact View.read_writes_cons_put m.view f inb_S8x1024_S1x384_6_0 _ [] rfl

/-- Adding to row 7. -/
theorem addRow1_run (m : Memref sig .tc .vmem S8x1024 .f32) (A : Acc F) (v : FVec F S1x128 .f32) (E : Set ℕ) (K : PUnit → sProp 𝕄) :
    iprop(owns (c : Thread nD τ) m fullShare A ∗ (owns (c : Thread nD τ) m fullShare (addRow1V v A) -∗ K ⟨⟩))
      ⊢ wp frame (wpE (defs₀ (F := F)) Variants.none c none) E (addRow1 m v) K := by
  unfold addRow1 owns
  iintro ⟨⟨%f, %hf, H⟩, Hk⟩
  sl_exec
  sl_step
  iapply Hk
  iexists _; isplitr
  swap; · iexact H
  ipureintro
  subst hf
  exact View.read_writes_cons_put m.view f inb_S8x1024_S1x128_7_0 _ [] rfl

/-- Loading a block of rows. -/
theorem loadX_run (m : Memref sig .tc .vmem S1024x128 .f32) (x : Vec F S1024x128 .f32) (b : Fin 8) (E : Set ℕ) (K : Vec F S128x128 .f32 → sProp 𝕄) :
    iprop(owns (c : Thread nD τ) m fullShare x ∗ (owns (c : Thread nD τ) m fullShare x -∗ K (blkX x b)))
      ⊢ wp frame (wpE (defs₀ (F := F)) Variants.none c none) E (loadX m b) K := by
  unfold loadX owns blkX
  iintro ⟨⟨%f, %hf, H⟩, Hk⟩
  subst hf
  sl_exec
  sl_step
  rw [View.readAt_unit m.view f (rowOk b) rfl (rowOk b)]
  iapply Hk
  iexists _; isplitr
  swap; · iexact H
  ipureintro; rfl

/-- Loading a block of row labels. -/
theorem loadL_run (m : Memref sig .tc .vmem S1024x1 .i32) (x : Vec F S1024x1 .i32) (b : Fin 8) (E : Set ℕ) (K : Vec F S128x1 .i32 → sProp 𝕄) :
    iprop(owns (c : Thread nD τ) m fullShare x ∗ (owns (c : Thread nD τ) m fullShare x -∗ K (blkL x b)))
      ⊢ wp frame (wpE (defs₀ (F := F)) Variants.none c none) E (loadL m b) K := by
  unfold loadL owns blkL
  iintro ⟨⟨%f, %hf, H⟩, Hk⟩
  subst hf
  sl_exec
  sl_step
  rw [View.readAt_unit m.view f (labOk b) rfl (labOk b)]
  iapply Hk
  iexists _; isplitr
  swap; · iexact H
  ipureintro; rfl

/-- Loading a block of column labels. -/
theorem loadC_run (m : Memref sig .tc .vmem S8x1x128 .i32) (x : Vec F S8x1x128 .i32) (b : Fin 8) (E : Set ℕ) (K : Vec F S1x1x128 .i32 → sProp 𝕄) :
    iprop(owns (c : Thread nD τ) m fullShare x ∗ (owns (c : Thread nD τ) m fullShare x -∗ K (blkC x b)))
      ⊢ wp frame (wpE (defs₀ (F := F)) Variants.none c none) E (loadC m b) K := by
  unfold loadC owns blkC
  iintro ⟨⟨%f, %hf, H⟩, Hk⟩
  subst hf
  sl_exec
  sl_step
  rw [View.readAt_unit m.view f (colOk b) rfl (colOk b)]
  iapply Hk
  iexists _; isplitr
  swap; · iexact H
  ipureintro; rfl

/-! ## The body's steps in sequence -/

section Steps

variable (mx : Memref sig .tc .vmem S1024x128 .f32) (ml : Memref sig .tc .vmem S1024x1 .i32)
  (mc : Memref sig .tc .vmem S8x1x128 .i32) (mp ma : Memref sig .tc .vmem S8x1024 .f32)
  (x0 : Vec F S1024x128 .f32) (x1 : Vec F S1024x1 .i32) (x2 : Vec F S8x1x128 .i32)

/-- The five buffers: the inputs as they are, the accumulators at `s`. -/
def held (s : Acc F × Acc F) : sProp 𝕄 :=
  iprop(owns (c : Thread nD τ) mx fullShare x0 ∗ owns (c : Thread nD τ) ml fullShare x1 ∗ owns (c : Thread nD τ) mc fullShare x2
    ∗ owns (c : Thread nD τ) mp fullShare s.1 ∗ owns (c : Thread nD τ) ma fullShare s.2)

/-- The program `p`, begun with the accumulators at `s`, returns `r` and leaves them at `s'`. -/
def Runs {α : Type} (p : Body F α) (s : Acc F × Acc F) (r : α) (s' : Acc F × Acc F) : Prop :=
  ∀ (E : Set ℕ) (K : α → sProp 𝕄),
    iprop(held c mx ml mc mp ma x0 x1 x2 s ∗ (held c mx ml mc mp ma x0 x1 x2 s' -∗ K r))
      ⊢ wp frame (wpE (defs₀ (F := F)) Variants.none c none) E p K

variable {mx ml mc mp ma x0 x1 x2}

local notation "RunsAt" => Runs c mx ml mc mp ma x0 x1 x2

variable {c}

theorem Runs.pure {α : Type} (r : α) (s : Acc F × Acc F) : RunsAt (pure r) s r s := fun E K => by
  iintro ⟨H, Hk⟩
  sl_step
  iapply Hk
  iexact H

theorem Runs.bind {α β : Type} {p : Body F α} {f : α → Body F β} {s s' s'' : Acc F × Acc F} {r : α} {r' : β}
    (hp : RunsAt p s r s') (hf : RunsAt (f r) s' r' s'') : RunsAt (p >>= f) s r' s'' := fun E K => by
  rw [wp_bind]
  refine BI.BIBase.Entails.trans ?_ (hp E _)
  iintro ⟨H, Hk⟩
  isplitl [H]; · iexact H
  iintro H
  iapply (hf E K)
  isplitl [H]; · iexact H
  iexact Hk

theorem runs_zeroP (s : Acc F × Acc F) : RunsAt (zeroAcc mp) s ⟨⟩ (acc0, s.2) := fun E K => by
  unfold held
  iintro ⟨⟨H0, H1, H2, H3, H4⟩, Hk⟩
  iapply (zeroAcc_run c mp s.1 E K)
  isplitl [H3]; · iexact H3
  iintro H3
  iapply Hk
  isplitl [H0]; · iexact H0
  isplitl [H1]; · iexact H1
  isplitl [H2]; · iexact H2
  isplitl [H3]; · iexact H3
  iexact H4

theorem runs_zeroA (s : Acc F × Acc F) : RunsAt (zeroAcc ma) s ⟨⟩ (s.1, acc0) := fun E K => by
  unfold held
  iintro ⟨⟨H0, H1, H2, H3, H4⟩, Hk⟩
  iapply (zeroAcc_run c ma s.2 E K)
  isplitl [H4]; · iexact H4
  iintro H4
  iapply Hk
  isplitl [H0]; · iexact H0
  isplitl [H1]; · iexact H1
  isplitl [H2]; · iexact H2
  isplitl [H3]; · iexact H3
  iexact H4

/-- A program that needs only the first accumulator, and takes it from `A` to `A'`. -/
theorem Runs.onP {p : Body F PUnit} {A' : Acc F} {s : Acc F × Acc F}
    (h : ∀ (E : Set ℕ) (K : PUnit → sProp 𝕄), iprop(owns (c : Thread nD τ) mp fullShare s.1 ∗ (owns (c : Thread nD τ) mp fullShare A' -∗ K ⟨⟩))
      ⊢ wp frame (wpE (defs₀ (F := F)) Variants.none c none) E p K) : RunsAt p s ⟨⟩ (A', s.2) := fun E K => by
  unfold held
  iintro ⟨⟨H0, H1, H2, H3, H4⟩, Hk⟩
  iapply (h E K)
  isplitl [H3]; · iexact H3
  iintro H3
  iapply Hk
  isplitl [H0]; · iexact H0
  isplitl [H1]; · iexact H1
  isplitl [H2]; · iexact H2
  isplitl [H3]; · iexact H3
  iexact H4

/-- A program that needs only the second accumulator, and takes it from `A` to `A'`. -/
theorem Runs.onA {p : Body F PUnit} {A' : Acc F} {s : Acc F × Acc F}
    (h : ∀ (E : Set ℕ) (K : PUnit → sProp 𝕄), iprop(owns (c : Thread nD τ) ma fullShare s.2 ∗ (owns (c : Thread nD τ) ma fullShare A' -∗ K ⟨⟩))
      ⊢ wp frame (wpE (defs₀ (F := F)) Variants.none c none) E p K) : RunsAt p s ⟨⟩ (s.1, A') := fun E K => by
  unfold held
  iintro ⟨⟨H0, H1, H2, H3, H4⟩, Hk⟩
  iapply (h E K)
  isplitl [H4]; · iexact H4
  iintro H4
  iapply Hk
  isplitl [H0]; · iexact H0
  isplitl [H1]; · iexact H1
  isplitl [H2]; · iexact H2
  isplitl [H3]; · iexact H3
  iexact H4

theorem runs_loadX (b : Fin 8) (s : Acc F × Acc F) : RunsAt (loadX mx b) s (blkX x0 b) s := fun E K => by
  unfold held
  iintro ⟨⟨H0, H1, H2, H3, H4⟩, Hk⟩
  iapply (loadX_run c mx x0 b E K)
  isplitl [H0]; · iexact H0
  iintro H0
  iapply Hk
  isplitl [H0]; · iexact H0
  isplitl [H1]; · iexact H1
  isplitl [H2]; · iexact H2
  isplitl [H3]; · iexact H3
  iexact H4

theorem runs_loadL (b : Fin 8) (s : Acc F × Acc F) : RunsAt (loadL ml b) s (blkL (F := F) x1 b) s := fun E K => by
  unfold held
  iintro ⟨⟨H0, H1, H2, H3, H4⟩, Hk⟩
  iapply (loadL_run c ml x1 b E K)
  isplitl [H1]; · iexact H1
  iintro H1
  iapply Hk
  isplitl [H0]; · iexact H0
  isplitl [H1]; · iexact H1
  isplitl [H2]; · iexact H2
  isplitl [H3]; · iexact H3
  iexact H4

theorem runs_loadC (b : Fin 8) (s : Acc F × Acc F) : RunsAt (loadC mc b) s (blkC (F := F) x2 b) s := fun E K => by
  unfold held
  iintro ⟨⟨H0, H1, H2, H3, H4⟩, Hk⟩
  iapply (loadC_run c mc x2 b E K)
  isplitl [H2]; · iexact H2
  iintro H2
  iapply Hk
  isplitl [H0]; · iexact H0
  isplitl [H1]; · iexact H1
  isplitl [H2]; · iexact H2
  isplitl [H3]; · iexact H3
  iexact H4

theorem runs_group8 {fa fp : BitVec 32 → FVec F S128x128 .bf16} {g : ℕ}
    {h : ∀ a, (![g, 0] : Fin 2 → Nat) a + S1x1024.size a ≤ S8x1024.size a} {w0 w1 w2 w3 w4 w5 w6 w7 : BitVec 32} {s : Acc F × Acc F} :
    RunsAt (group8 mp ma fa fp g h w0 w1 w2 w3 w4 w5 w6 w7) s ⟨⟩
      (addRowV g h (sum8 fp w0 w1 w2 w3 w4 w5 w6 w7) s.1, addRowV g h (sum8 fa w0 w1 w2 w3 w4 w5 w6 w7) s.2) := by
  unfold group8
  exact .bind (.onA fun E K => addRow_run c ma s.2 g h _ E K) (.onP fun E K => addRow_run c mp s.1 g h _ E K)

theorem runs_sweep {fa fp : BitVec 32 → FVec F S128x128 .bf16} {e : FVec F S128x128 .bf16} {s : Acc F × Acc F} :
    RunsAt (sweep mp ma fa fp e) s ⟨⟩ (addRow1V (sum1 e) (sweepV fp s.1), sweepV fa s.2) := by
  unfold sweep sweepV
  refine .bind runs_group8 (.bind runs_group8 (.bind runs_group8 (.bind runs_group8
    (.bind runs_group8 (.bind runs_group8 (.bind (.onA fun E K => addRow3_run c ma _ _ E K)
      (.bind (.onP fun E K => addRow3_run c mp _ _ E K) (.onP fun E K => addRow1_run c mp _ _ E K))))))))

theorem runs_diagTile (a : Fin 8) (s : Acc F × Acc F) :
    RunsAt (diagTile mx mc mp ma (blkX x0 a) (blkL (F := F) x1 a) a) s ⟨⟩ (diagP x0 x1 x2 a s.1, diagA x0 a s.2) := by
  unfold diagTile
  exact .bind (runs_loadX a s) (.bind (runs_loadC a s) runs_sweep)

theorem runs_offTile (a b : Fin 8) (s : Acc F × Acc F) :
    RunsAt (offTile mx mc mp ma (blkX x0 a) (blkL (F := F) x1 a) b) s ⟨⟩ (offP x0 x1 x2 a b s.1, offA x0 a b s.2) := by
  unfold offTile
  exact .bind (runs_loadX b s) (.bind (runs_loadC b s) runs_sweep)

theorem runs_offTiles (a : Fin 8) (cs : List (Fin 8)) : ∀ s : Acc F × Acc F,
    RunsAt (offTiles mx mc mp ma (blkX x0 a) (blkL (F := F) x1 a) cs) s ⟨⟩
      (cs.foldl (fun A b => offP x0 x1 x2 a b A) s.1, cs.foldl (fun A b => offA x0 a b A) s.2) := by
  induction cs with
  | nil => exact fun s => .pure _ s
  | cons b cs ih => exact fun s => .bind (runs_offTile a b s) (ih _)

theorem runs_allRows (rs : List (Fin 8 × List (Fin 8))) : ∀ s : Acc F × Acc F,
    RunsAt (allRows mx ml mc mp ma rs) s ⟨⟩ (rowsP x0 x1 x2 rs s.1, rowsA x0 rs s.2) := by
  induction rs with
  | nil => exact fun s => .pure _ s
  | cons r rs ih =>
    exact fun s => .bind (.bind (runs_loadX r.1 s) (.bind (runs_loadL r.1 s) (.bind (runs_diagTile r.1 s) (runs_offTiles r.1 r.2 _)))) (ih _)

/-- The body leaves the accumulators of the upper triangle's tiles, whatever they held. -/
theorem runs_body (s : Acc F × Acc F) :
    RunsAt (body mx ml mc mp ma) s ⟨⟩ (rowsP x0 x1 x2 upper acc0, rowsA x0 upper acc0) := by
  unfold body
  exact .bind (runs_zeroP s) (.bind (runs_zeroA _) (runs_allRows upper _))

end Steps

end Cert.Hist
-- ==== Proof.Hist.Frame.lean ====
module

public import proofs.«01_k».proof.Proof.Gen.KernelIdeal.Frame
public import proofs.«01_k».proof.Proof.Hist.BodyEq
public import proofs.«01_k».proof.Proof.Hist.Run

/-! The kernel's run with its result: the same set-up as the frame's, with the histogram body's accumulators named
by `rowsP` and `rowsA`, and the result's buffer read at the end. -/

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Region
variable (V : (c : Dev nD) → (b : Ref sig .tc) → Buf (Elt F) ((c : Thread nD τ).loc b))

/-- What the body leaves in the two accumulators. -/
def accs (c : Dev nD) (t : Fin cfg0.N) : Vec F S8x1024 .f32 × Vec F S8x1024 .f32 :=
  (Hist.rowsP (iblk0 V c 0 t) (iblk0 V c 1 t) (iblk0 V c 2 t) Hist.upper Hist.acc0, Hist.rowsA (iblk0 V c 0 t) Hist.upper Hist.acc0)

/-- The proof data of pipeline 0 on core `c`: the arrays as the region finds them (`V`); after the body at
    point `t` each input's buffer at its block and the outputs' at `accs`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accs V c t).1
    | ⟨4, _⟩ => (accs V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (accs V c t).1 := by dsimp only [dat0]
theorem after0_4 (c : Dev nD) (t : Fin cfg0.N) : (dat0 V c).after 4 t = (accs V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, Hist.body_eq]
  unfold accs
  iintro ⟨HΦ, Ho, ⟨%d0, H0⟩, ⟨%d1, H1⟩, ⟨%d2, H2⟩, ⟨%d3, H3⟩, ⟨%d4, H4⟩⟩
  iapply (Hist.runs_body (c := c) (x0 := iblk0 V c 0 t) (x1 := iblk0 V c 1 t) (x2 := iblk0 V c 2 t)
    ((dat0 V c).before 3 t d3, (dat0 V c).before 4 t d4) Set.univ _)
  unfold Hist.held
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)

/-! ## The proof data family and the thread state -/

/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

-- `θ_run_regions_kit_sems`'s implicit arguments are found by unifying its conclusion with this one, which takes unfolding
-- plain definitions in a metavariable's type
set_option backward.isDefEq.respectTransparency.types false in
/-- The kernel runs; its result is `W5` at its buffer, its arguments end unchanged, and every counter is zero. -/
theorem run : θ_run defs (onTc (τ := τ) (main (F := F))) ⟨m, fun _ => 0, ρ⟩ (fun r => (∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v6 (by decide)),
       (h c _ (mem_uc main_arg0 (by decide))).trans (W5_main_arg0 m ρ c),
       (h c _ (mem_uc main_arg1 (by decide))).trans (W5_main_arg1 m ρ c)⟩), funext fun g => hz g (.inr (no_unscoped g.2))⟩)

end Cert.KernelIdeal.Val

end
-- ==== Proof.Hist.Real.lean ====
module

public import Mathlib.Data.EReal.Inv
public import Mathlib.Algebra.BigOperators.Fin
public import Mathlib.Algebra.BigOperators.Intervals
public import Mathlib.Algebra.Order.Floor.Ring
public import Mathlib.Tactic.Ring
public import Mathlib.Tactic.Linarith

/-! The real arithmetic of the histogram: the ramp of a pair at a threshold, the hat of a pair at a bin (the
difference of two ramps), and the sum over pairs `i < j` taken block by block. -/

@[expose] public section

noncomputable section

namespace Cert.Hist

/-! ## The ramp and the hat -/

/-- An extended real clamped to the unit interval. -/
def unit01 (e : EReal) : ℝ := (min (max e 0) 1).toReal

theorem coe_unit01 (e : EReal) : ((unit01 e : ℝ) : EReal) = min (max e 0) 1 := by
  unfold unit01
  have h0 : (0 : EReal) ≤ min (max e 0) 1 := le_min (le_max_right _ _) zero_le_one
  have h1 : min (max e 0) 1 ≤ (1 : EReal) := min_le_right _ _
  refine EReal.coe_toReal (fun h => ?_) (fun h => ?_)
  · rw [h] at h1
    exact EReal.coe_ne_top 1 (top_le_iff.mp h1)
  · rw [h] at h0
    exact absurd h0 (by simp)

theorem unit01_coe (r : ℝ) : unit01 (r : EReal) = min (max r 0) 1 := by
  have h := coe_unit01 (r : EReal)
  have e : min (max (r : EReal) 0) 1 = ((min (max r 0) 1 : ℝ) : EReal) := by
    rw [EReal.coe_strictMono.monotone.map_min, EReal.coe_strictMono.monotone.map_max, EReal.coe_zero, EReal.coe_one]
  rw [e] at h
  exact EReal.coe_injective h

/-- The ramp of a similarity at threshold `t`: how far `25 s + 25` is past `t`, clamped to the unit interval. -/
def rampE (s : EReal) (t : ℕ) : ℝ := unit01 (s * ((25 : ℝ) : EReal) + ((25 : ℝ) : EReal) - ((t : ℝ) : EReal))

/-- The share of a similarity that bin `k` takes: a hat about `k` on the scale `25 s + 25`. -/
def hatE (s : EReal) : ℕ → ℝ
  | 0 => 1 - rampE s 0
  | k + 1 => rampE s k - rampE s (k + 1)

theorem rampE_coe (σ : ℝ) (t : ℕ) : rampE (σ : EReal) t = min (max (25 * σ + 25 - t) 0) 1 := by
  unfold rampE
  rw [← EReal.coe_mul, ← EReal.coe_add, ← EReal.coe_sub, unit01_coe, mul_comm]

/-- A place `p` on the bins' scale gives `n + 1 - p` to its bin `n` and `p - n` to the next one: that is the hat. -/
theorem hat_split (σ : ℝ) (h0 : -1 ≤ σ) (h1 : σ ≤ 1) (n : ℕ) (hn : (n : ℝ) ≤ 25 * σ + 25) (hn' : 25 * σ + 25 < n + 1)
    (k : ℕ) (hk : k ≤ 50) :
    (if n = k then (n : ℝ) + 1 - (25 * σ + 25) else 0) + (if min 50 (n + 1) = k then 25 * σ + 25 - n else 0) = hatE (σ : EReal) k := by
  set p := 25 * σ + 25 with hp
  have hp50 : p ≤ 50 := by linarith
  have hn50 : n ≤ 50 := by
    have : (n : ℝ) ≤ 50 := hn.trans hp50
    exact_mod_cast this
  -- a ramp below the place is one, above it zero, between the fraction
  have below : ∀ t : ℕ, t + 1 ≤ n → rampE (σ : EReal) t = 1 := fun t ht => by
    have : (t : ℝ) + 1 ≤ n := by exact_mod_cast ht
    rw [rampE_coe, ← hp, max_eq_left (by linarith), min_eq_right (by linarith)]
  have at_n : rampE (σ : EReal) n = p - n := by
    rw [rampE_coe, ← hp, max_eq_left (by linarith), min_eq_left (by linarith)]
  have above : ∀ t : ℕ, n + 1 ≤ t → rampE (σ : EReal) t = 0 := fun t ht => by
    have : (n : ℝ) + 1 ≤ t := by exact_mod_cast ht
    rw [rampE_coe, ← hp, max_eq_right (by linarith), min_eq_left zero_le_one]
  have top : n = 50 → p = 50 := fun h => by
    subst h
    exact le_antisymm hp50 (by exact_mod_cast hn)
  cases k with
  | zero =>
    show _ = 1 - rampE (σ : EReal) 0
    have hm : ¬ min 50 (n + 1) = 0 := by omega
    rw [if_neg hm]
    by_cases h : n = 0
    · subst h; rw [if_pos rfl, at_n]; ring
    · rw [if_neg h, below 0 (by omega)]; ring
  | succ k =>
    show _ = rampE (σ : EReal) k - rampE (σ : EReal) (k + 1)
    rcases Nat.lt_trichotomy n (k + 1) with h | h | h
    · rw [if_neg (by omega : ¬ n = k + 1), above (k + 1) (by omega)]
      by_cases e : n = k
      · subst e
        rw [if_pos (by omega), at_n]; ring
      · rw [if_neg (by omega), above k (by omega)]; ring
    · rw [if_pos h, below k (by omega)]
      by_cases e : n = 50
      · rw [if_pos (by omega), ← h, at_n, top e, e]; norm_num
      · rw [if_neg (by omega), ← h, at_n]; ring
    · rw [if_neg (by omega), if_neg (by omega), below k (by omega), below (k + 1) (by omega)]; ring

/-! ## The sum over pairs, block by block -/

/-- Row `r` of block `a`, among the 1024 rows. -/
def rowIx (a : Fin 8) (r : Fin 128) : Fin 1024 := ⟨128 * a.val + r.val, by omega⟩

theorem sum_blocks {M : Type} [AddCommMonoid M] (f : Fin 1024 → M) : ∑ i, f i = ∑ a : Fin 8, ∑ r : Fin 128, f (rowIx a r) := by
  rw [← Fintype.sum_prod_type' fun a r => f (rowIx a r)]
  refine (Equiv.sum_comp (finProdFinEquiv (m := 8) (n := 128)) f).symm.trans (Finset.sum_congr rfl fun p _ => ?_)
  congr 1
  ext
  simp [rowIx, finProdFinEquiv, add_comm]

/-- The sum over pairs `i < j`. -/
def pairSum (G : Fin 1024 → Fin 1024 → ℝ) : ℝ := ∑ i, ∑ j, if i < j then G i j else 0

theorem pairSum_add (G H : Fin 1024 → Fin 1024 → ℝ) : pairSum (fun i j => G i j + H i j) = pairSum G + pairSum H := by
  unfold pairSum
  simp only [← Finset.sum_add_distrib]
  refine Finset.sum_congr rfl fun i _ => Finset.sum_congr rfl fun j _ => ?_
  split <;> simp

theorem pairSum_sub (G H : Fin 1024 → Fin 1024 → ℝ) : pairSum (fun i j => G i j - H i j) = pairSum G - pairSum H := by
  unfold pairSum
  simp only [← Finset.sum_sub_distrib]
  refine Finset.sum_congr rfl fun i _ => Finset.sum_congr rfl fun j _ => ?_
  split <;> simp

theorem pairSum_congr {G H : Fin 1024 → Fin 1024 → ℝ} (h : ∀ i j, i < j → G i j = H i j) : pairSum G = pairSum H := by
  unfold pairSum
  refine Finset.sum_congr rfl fun i _ => Finset.sum_congr rfl fun j _ => ?_
  split
  · next e => exact h i j e
  · rfl

/-- What a diagonal block gives: every pair off the diagonal at half weight. -/
theorem diag_half (g : Fin 128 → Fin 128 → ℝ) (hg : ∀ r l, g r l = g l r) :
    ∑ r, ∑ l, (if r < l then g r l else 0) = ∑ l, ∑ r, g r l * (if r = l then 0 else 1 / 2) := by
  have h1 : ∑ l, ∑ r, g r l * (if r = l then 0 else 1 / 2)
      = 1 / 2 * ∑ l : Fin 128, ∑ r : Fin 128, (if r < l then g r l else 0) + 1 / 2 * ∑ l : Fin 128, ∑ r : Fin 128, (if l < r then g r l else 0) := by
    simp only [Finset.mul_sum, ← Finset.sum_add_distrib]
    refine Finset.sum_congr rfl fun l _ => Finset.sum_congr rfl fun r _ => ?_
    rcases lt_trichotomy r l with h | h | h
    · rw [if_neg h.ne, if_pos h, if_neg h.asymm]; ring
    · rw [if_pos h, if_neg h.not_lt, if_neg h.symm.not_lt]; ring
    · rw [if_neg h.ne', if_neg h.asymm, if_pos h]; ring
  have h2 : ∑ l : Fin 128, ∑ r : Fin 128, (if l < r then g r l else 0) = ∑ r, ∑ l, (if r < l then g r l else 0) :=
    Finset.sum_congr rfl fun l _ => Finset.sum_congr rfl fun r _ => by rw [hg r l]
  rw [h1, h2, Finset.sum_comm (f := fun l r : Fin 128 => if r < l then g r l else 0)]
  ring

/-- The sum over pairs of a symmetric function: half of each diagonal block off its diagonal, and each block above the
diagonal whole. -/
theorem pairSum_blocks (G : Fin 1024 → Fin 1024 → ℝ) (hG : ∀ i j, G i j = G j i) :
    pairSum G = ∑ a : Fin 8, ((∑ l : Fin 128, ∑ r : Fin 128, G (rowIx a r) (rowIx a l) * (if r = l then 0 else 1 / 2))
      + ∑ b : Fin 8, if a < b then ∑ l : Fin 128, ∑ r : Fin 128, G (rowIx a r) (rowIx b l) else 0) := by
  unfold pairSum
  rw [sum_blocks]
  refine Finset.sum_congr rfl fun a _ => ?_
  have h1 : ∀ r : Fin 128, (∑ j, if rowIx a r < j then G (rowIx a r) j else 0)
      = ∑ b : Fin 8, ∑ l : Fin 128, if rowIx a r < rowIx b l then G (rowIx a r) (rowIx b l) else 0 := fun r => sum_blocks _
  simp only [h1]
  rw [Finset.sum_comm, ← diag_half (fun r l => G (rowIx a r) (rowIx a l)) (fun r l => hG _ _)]
  have h2 : ∀ b : Fin 8, (∑ r : Fin 128, ∑ l : Fin 128, if rowIx a r < rowIx b l then G (rowIx a r) (rowIx b l) else 0)
      = (if b = a then ∑ r : Fin 128, ∑ l : Fin 128, (if r < l then G (rowIx a r) (rowIx a l) else 0) else 0)
        + (if a < b then ∑ l : Fin 128, ∑ r : Fin 128, G (rowIx a r) (rowIx b l) else 0) := fun b => by
    rcases lt_trichotomy a b with h | h | h
    · rw [if_neg h.ne', if_pos h, zero_add, Finset.sum_comm]
      refine Finset.sum_congr rfl fun l _ => Finset.sum_congr rfl fun r _ => if_pos ?_
      have h' : a.val < b.val := h
      show 128 * a.val + r.val < 128 * b.val + l.val
      omega
    · subst h
      rw [if_pos rfl, if_neg (lt_irrefl _), add_zero]
      refine Finset.sum_congr rfl fun r _ => Finset.sum_congr rfl fun l _ => ?_
      refine if_congr ?_ rfl rfl
      show 128 * a.val + r.val < 128 * a.val + l.val ↔ r.val < l.val
      omega
    · rw [if_neg h.ne, if_neg h.asymm, add_zero]
      refine Finset.sum_eq_zero fun r _ => Finset.sum_eq_zero fun l _ => if_neg ?_
      have h' : b.val < a.val := h
      show ¬ 128 * a.val + r.val < 128 * b.val + l.val
      omega
  simp only [h2, Finset.sum_add_distrib, Finset.sum_ite_eq', Finset.mem_univ, if_true]

/-- There are 523776 pairs. -/
theorem pairSum_one : pairSum (fun _ _ => 1) = 523776 := by
  have h := pairSum_blocks (fun _ _ => 1) (fun _ _ => rfl)
  have hd : ∑ l : Fin 128, ∑ r : Fin 128, (1 : ℝ) * (if r = l then 0 else 1 / 2) = 8128 := by
    have : ∀ l : Fin 128, ∑ r : Fin 128, (1 : ℝ) * (if r = l then 0 else 1 / 2) = 127 / 2 := fun l => by
      have e : ∀ r : Fin 128, (1 : ℝ) * (if r = l then 0 else 1 / 2) = 1 / 2 - (if r = l then 1 / 2 else 0) := fun r => by
        split <;> ring
      simp only [e, Finset.sum_sub_distrib, Finset.sum_ite_eq', Finset.mem_univ, if_true, Finset.sum_const, Finset.card_univ, Fintype.card_fin]
      norm_num
    simp only [this, Finset.sum_const, Finset.card_univ, Fintype.card_fin]
    norm_num
  rw [h]
  simp only [hd, Finset.sum_const, Finset.card_univ, Fintype.card_fin]
  simp [Fin.sum_univ_eight]
  norm_num

end Cert.Hist
-- ==== Proof.Hist.Tile.lean ====
module

public import proofs.«01_k».proof.Proof.Hist.Run
public import proofs.«01_k».proof.Proof.Hist.Real
public import Idealize.ShloMosaic.Lib.Pointwise

/-! One tile's work on an accumulator, read at an index over the extended reals: the column sums of the tile's
summand at each threshold. -/

@[expose] public section

set_option maxRecDepth 16384

noncomputable section

namespace Cert.Hist

open Idealize.ShloMosaic Cert.KernelIdeal

variable [Facts]
open Facts₀ Facts

/-- The column sums of eight tiles, at column `l` of tile `j`. -/
theorem sum8_apply (f : BitVec 32 → FVec Ideal S128x128 .bf16) (w : Fin 8 → BitVec 32) (j : Fin 8) (l : Fin 128) (L : Fin 1024)
    (hL : L.val = 128 * j.val + l.val) :
    sum8 f (w 0) (w 1) (w 2) (w 3) (w 4) (w 5) (w 6) (w 7) (ix2 0 L) = ∑ r : Fin 128, f (w j) (ix2 r l) := by
  have hl := l.isLt
  pointwise [sum8, onesRow]
  refine Finset.sum_congr rfl fun r _ => ?_
  obtain ⟨j, hj⟩ := j
  interval_cases j
  all_goals
    dsimp only at hL
    simp (disch := omega) only [dif_pos, dif_neg]
    refine congrArg (fun q => f (w _) (ix2 r q)) (Fin.ext ?_)
    dsimp only
    omega

/-- The column sums of three tiles, at column `l` of tile `j`. -/
theorem sum3_apply (f : BitVec 32 → FVec Ideal S128x128 .bf16) (w : Fin 3 → BitVec 32) (j : Fin 3) (l : Fin 128) (L : Fin 384)
    (hL : L.val = 128 * j.val + l.val) :
    sum3 f (w 0) (w 1) (w 2) (ix2 0 L) = ∑ r : Fin 128, f (w j) (ix2 r l) := by
  have hl := l.isLt
  pointwise [sum3, onesRow]
  refine Finset.sum_congr rfl fun r _ => ?_
  obtain ⟨j, hj⟩ := j
  interval_cases j
  all_goals
    dsimp only at hL
    simp (disch := omega) only [dif_pos, dif_neg]
    refine congrArg (fun q => f (w _) (ix2 r q)) (Fin.ext ?_)
    dsimp only
    omega

/-- The column sums of one tile. -/
theorem sum1_apply (e : FVec Ideal S128x128 .bf16) (l : Fin 128) :
    sum1 e (ix2 0 l) = ∑ r : Fin 128, e (ix2 r l) := by
  pointwise [sum1, onesRow]

/-- The first `n` lanes of row `g` put over an accumulator, at an index. -/
theorem put_row {α : Type} {n : ℕ} (A : S8x1024.Idx → α) (g : ℕ) (w : ((a : Fin 2) → Fin ((![1, n] : Fin 2 → ℕ) a)) → α) (g' : Fin 8) (L : Fin 1024) :
    VecWindow.put (s := S8x1024) A ![g, 0] ![1, n] w (ix2 g' L)
      = if h : g'.val = g ∧ L.val < n then w (ix2 (0 : Fin 1) (⟨L.val, h.2⟩ : Fin n)) else A (ix2 g' L) := by
  unfold VecWindow.put
  by_cases h : g'.val = g ∧ L.val < n
  · have h' : ∀ a, (![g, 0] : Fin 2 → ℕ) a ≤ ((ix2 g' L : S8x1024.Idx) a).val ∧ ((ix2 g' L : S8x1024.Idx) a).val < (![g, 0] : Fin 2 → ℕ) a + (![1, n] : Fin 2 → ℕ) a := by
      intro a
      match a with
      | ⟨0, _⟩ => exact ⟨h.1.ge, show g'.val < g + 1 by omega⟩
      | ⟨1, _⟩ => exact ⟨Nat.zero_le _, show L.val < 0 + n by omega⟩
    rw [dif_pos h, dif_pos h']
    refine congrArg w (funext fun a => Fin.ext ?_)
    match a with
    | ⟨0, _⟩ => show g'.val - g = 0; omega
    | ⟨1, _⟩ => show L.val - 0 = L.val; omega
  · have h' : ¬ ∀ a, (![g, 0] : Fin 2 → ℕ) a ≤ ((ix2 g' L : S8x1024.Idx) a).val ∧ ((ix2 g' L : S8x1024.Idx) a).val < (![g, 0] : Fin 2 → ℕ) a + (![1, n] : Fin 2 → ℕ) a := by
      intro hall
      have h0 : g ≤ g'.val ∧ g'.val < g + 1 := hall 0
      have h1 : 0 ≤ L.val ∧ L.val < 0 + n := hall 1
      exact h ⟨by omega, by omega⟩
    rw [dif_neg h, dif_neg h']

/-- The first `n` lanes of row `g` of an accumulator, at an index. -/
theorem window_row {α : Type} {n : ℕ} (A : S8x1024.Idx → α) (g : ℕ)
    (h : ∀ a, (![g, 0] : Fin 2 → Nat) a + (![1, n] : Fin 2 → ℕ) a ≤ S8x1024.size a) (g' : Fin 8) (L : Fin 1024) (hg : g'.val = g) (hL : L.val < n) :
    VecWindow.window (s := S8x1024) A ![g, 0] ![1, n] h (ix2 (0 : Fin 1) (⟨L.val, hL⟩ : Fin n)) = A (ix2 g' L) := by
  unfold VecWindow.window
  refine congrArg A (funext fun a => Fin.ext ?_)
  match a with
  | ⟨0, _⟩ => show g + 1 * 0 = g'.val; omega
  | ⟨1, _⟩ => show 0 + 1 * L.val = L.val; omega

/-- A row added to, at an index: the addend in that row, and nothing elsewhere. -/
theorem addRowV_apply (g : ℕ) (h : ∀ a, (![g, 0] : Fin 2 → Nat) a + S1x1024.size a ≤ S8x1024.size a) (v : FVec Ideal S1x1024 .f32)
    (A : Acc Ideal) (g' : Fin 8) (L : Fin 1024) :
    addRowV g h v A (ix2 g' L) = A (ix2 g' L) + if g'.val = g then v (ix2 0 L) else 0 := by
  unfold addRowV
  refine (put_row A g _ g' L).trans ?_
  by_cases hg : g'.val = g
  · rw [dif_pos ⟨hg, L.isLt⟩, if_pos hg]
    exact congrArg (· + v (ix2 0 L)) ((congrFun (shapeCast_self _ _) _).trans (window_row A g h g' L hg L.isLt))
  · rw [dif_neg fun q => hg q.1, if_neg hg, add_zero]

theorem addRow3V_apply (v : FVec Ideal S1x384 .f32) (A : Acc Ideal) (g' : Fin 8) (L : Fin 1024) :
    addRow3V v A (ix2 g' L) = A (ix2 g' L) + if h : g'.val = 6 ∧ L.val < 384 then v (ix2 0 ⟨L.val, h.2⟩) else 0 := by
  unfold addRow3V
  refine (put_row A 6 _ g' L).trans ?_
  by_cases hg : g'.val = 6 ∧ L.val < 384
  · rw [dif_pos hg, dif_pos hg]
    exact congrArg (· + v (ix2 0 ⟨L.val, hg.2⟩)) ((congrFun (shapeCast_self _ _) _).trans (window_row A 6 _ g' L hg.1 hg.2))
  · rw [dif_neg hg, dif_neg hg, add_zero]

theorem addRow1V_apply (v : FVec Ideal S1x128 .f32) (A : Acc Ideal) (g' : Fin 8) (L : Fin 1024) :
    addRow1V v A (ix2 g' L) = A (ix2 g' L) + if h : g'.val = 7 ∧ L.val < 128 then v (ix2 0 ⟨L.val, h.2⟩) else 0 := by
  unfold addRow1V
  refine (put_row A 7 _ g' L).trans ?_
  by_cases hg : g'.val = 7 ∧ L.val < 128
  · rw [dif_pos hg, dif_pos hg]
    exact congrArg (· + v (ix2 0 ⟨L.val, hg.2⟩)) ((congrFun (shapeCast_self _ _) _).trans (window_row A 7 _ g' L hg.1 hg.2))
  · rw [dif_neg hg, dif_neg hg, add_zero]

/-! ## The thresholds -/

/-- The float word of threshold `8 g + j`. -/
def thrWord : Fin 7 → Fin 8 → BitVec 32 :=
  ![![0x00000000#32, 0x3F800000#32, 0x40000000#32, 0x40400000#32, 0x40800000#32, 0x40A00000#32, 0x40C00000#32, 0x40E00000#32],
    ![0x41000000#32, 0x41100000#32, 0x41200000#32, 0x41300000#32, 0x41400000#32, 0x41500000#32, 0x41600000#32, 0x41700000#32],
    ![0x41800000#32, 0x41880000#32, 0x41900000#32, 0x41980000#32, 0x41A00000#32, 0x41A80000#32, 0x41B00000#32, 0x41B80000#32],
    ![0x41C00000#32, 0x41C80000#32, 0x41D00000#32, 0x41D80000#32, 0x41E00000#32, 0x41E80000#32, 0x41F00000#32, 0x41F80000#32],
    ![0x42000000#32, 0x42040000#32, 0x42080000#32, 0x420C0000#32, 0x42100000#32, 0x42140000#32, 0x42180000#32, 0x421C0000#32],
    ![0x42200000#32, 0x42240000#32, 0x42280000#32, 0x422C0000#32, 0x42300000#32, 0x42340000#32, 0x42380000#32, 0x423C0000#32],
    ![0x42400000#32, 0x42440000#32, 0x42480000#32, 0x00000000#32, 0x00000000#32, 0x00000000#32, 0x00000000#32, 0x00000000#32]]

/-- The threshold's word denotes the threshold. -/
theorem thrWord_val (k : Fin 51) (g : Fin 7) (j : Fin 8) (h : k.val = 8 * g.val + j.val) :
    Ideal.ofBits .f32 (thrWord g j) = ((k.val : ℝ) : EReal) := by
  have hk := k.isLt
  obtain ⟨k, hk'⟩ := k
  obtain ⟨g, hg⟩ := g
  obtain ⟨j, hj⟩ := j
  dsimp only at h hk ⊢
  subst h
  interval_cases g <;> interval_cases j <;> first | omega | (simp [thrWord, Ideal.ofBits, Ideal.ieee]; try (rw [← EReal.coe_mul]; norm_num))

/-- Where threshold `k` and lane `l` lie in an accumulator. -/
def accIx (k : Fin 51) (l : Fin 128) : S8x1024.Idx := ix2 ⟨k.val / 8, by omega⟩ ⟨128 * (k.val % 8) + l.val, by omega⟩

/-- Where the counts' lane `l` lies in an accumulator. -/
def cntIx (l : Fin 128) : S8x1024.Idx := ix2 7 ⟨l.val, by omega⟩

/-- A tile's sweep adds, in row `g` and lane `l` of its part `j`, the summand's column sum at threshold `8 g + j`. -/
theorem sweepV_at (f : BitVec 32 → FVec Ideal S128x128 .bf16) (A : Acc Ideal) (g : Fin 7) (j : Fin 8) (h : 8 * g.val + j.val < 51) (l : Fin 128) :
    sweepV f A (ix2 (g.castLE (by omega)) ⟨128 * j.val + l.val, by omega⟩)
      = A (ix2 (g.castLE (by omega)) ⟨128 * j.val + l.val, by omega⟩) + ∑ r : Fin 128, f (thrWord g j) (ix2 r l) := by
  have s8 := fun g : Fin 7 => sum8_apply f (thrWord g) j l ⟨128 * j.val + l.val, by omega⟩ rfl
  unfold sweepV
  simp only [addRowV_apply, addRow3V_apply, Fin.val_castLE]
  obtain ⟨g, hg⟩ := g
  interval_cases g
  all_goals simp only [reduceIte, Nat.reduceEqDiff, false_and, true_and, reduceDIte, OfNat.zero_ne_ofNat, OfNat.ofNat_ne_zero, OfNat.ofNat_ne_one, OfNat.one_ne_ofNat, zero_ne_one, one_ne_zero, add_zero]
  · exact congrArg (A _ + ·) (s8 0)
  · exact congrArg (A _ + ·) (s8 1)
  · exact congrArg (A _ + ·) (s8 2)
  · exact congrArg (A _ + ·) (s8 3)
  · exact congrArg (A _ + ·) (s8 4)
  · exact congrArg (A _ + ·) (s8 5)
  · dsimp only at h
    have hm : j.val < 3 := by omega
    have hl := l.isLt
    rw [dif_pos (by omega)]
    have s3 := sum3_apply f (fun j => thrWord 6 (j.castLE (by omega))) ⟨j.val, hm⟩ l ⟨128 * j.val + l.val, by omega⟩ rfl
    exact congrArg (A _ + ·) s3

/-- The same at threshold `k`. -/
theorem sweepV_acc (f : BitVec 32 → FVec Ideal S128x128 .bf16) (A : Acc Ideal) (k : Fin 51) (l : Fin 128) :
    sweepV f A (accIx k l)
      = A (accIx k l) + ∑ r : Fin 128, f (thrWord ⟨k.val / 8, by omega⟩ ⟨k.val % 8, by omega⟩) (ix2 r l) :=
  sweepV_at f A ⟨k.val / 8, by omega⟩ ⟨k.val % 8, by omega⟩ (by have := k.isLt; show 8 * (k.val / 8) + k.val % 8 < 51; omega) l

/-- A tile's sweep leaves the counts. -/
theorem sweepV_cnt (f : BitVec 32 → FVec Ideal S128x128 .bf16) (A : Acc Ideal) (l : Fin 128) :
    sweepV f A (cntIx l) = A (cntIx l) := by
  unfold sweepV cntIx
  simp only [addRowV_apply, addRow3V_apply]
  simp

/-- The counts' sum leaves the thresholds. -/
theorem addRow1V_acc (v : FVec Ideal S1x128 .f32) (A : Acc Ideal) (k : Fin 51) (l : Fin 128) :
    addRow1V v A (accIx k l) = A (accIx k l) := by
  unfold accIx
  have hk : ¬ k.val / 8 = 7 := by omega
  rw [addRow1V_apply, dif_neg fun h => hk h.1, add_zero]

/-- The counts' sum adds its addend to the counts. -/
theorem addRow1V_cnt (v : FVec Ideal S1x128 .f32) (A : Acc Ideal) (l : Fin 128) :
    addRow1V v A (cntIx l) = A (cntIx l) + v (ix2 0 l) := by
  unfold cntIx
  rw [addRow1V_apply, dif_pos ⟨rfl, l.isLt⟩]

end Cert.Hist
-- ==== Proof.Hist.Spec.lean ====
module

public import proofs.«01_k».proof.Proof.Hist.Real
public import Idealize.ShloMosaic.Lib.Pointwise

/-! What both programs compute, over the extended reals: the histograms of the pairs with equal and with different
labels, each divided by the number of its pairs, and the sum of the second against the running sum of the first. -/

@[expose] public section

noncomputable section

namespace Cert.Hist

open Idealize.ShloMosaic

/-- A sum of reals, as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The similarity of rows `i` and `j`. -/
def simE (x : (⟨2, ![1024, 128]⟩ : Shape).Idx → EReal) (i j : Fin 1024) : EReal := ∑ k : Fin 128, x (ix2 i k) * x (ix2 j k)

theorem simE_comm (x : (⟨2, ![1024, 128]⟩ : Shape).Idx → EReal) (i j : Fin 1024) : simE x i j = simE x j i :=
  Finset.sum_congr rfl fun _ _ => mul_comm _ _

/-- The histogram loss of two histograms `hp`, `hn` and their numbers of pairs `np`, `nn`: the chance that a pair of
the second kind lies at or above one of the first. -/
def loss (hp hn : Fin 51 → ℝ) (np nn : ℝ) : EReal :=
  ∑ j, Ideal.div (hn j : EReal) nn * ∑ i, if i ≤ j then Ideal.div (hp i : EReal) np else 0

/-- The histogram of the pairs in `p`, at bin `k`. -/
def binSum (x : (⟨2, ![1024, 128]⟩ : Shape).Idx → EReal) (p : Fin 1024 → Fin 1024 → Prop) [∀ i j, Decidable (p i j)] (k : Fin 51) : ℝ :=
  pairSum fun i j => if p i j then hatE (simE x i j) k.val else 0

/-- The number of pairs in `p`. -/
def pairCount (p : Fin 1024 → Fin 1024 → Prop) [∀ i j, Decidable (p i j)] : ℝ := pairSum fun i j => if p i j then 1 else 0

/-- The histogram loss of rows `x` with labels `lab`. -/
def result (x : (⟨2, ![1024, 128]⟩ : Shape).Idx → EReal) (lab : Fin 1024 → BitVec 32) : EReal :=
  loss (binSum x fun i j => lab i = lab j) (binSum x fun i j => ¬ lab i = lab j) (pairCount fun i j => lab i = lab j)
    (pairCount fun i j => ¬ lab i = lab j)

end Cert.Hist
-- ==== Proof.Hist.Entry.lean ====
module

public import proofs.«01_k».proof.Proof.Hist.Tile
public import proofs.«01_k».proof.Proof.Hist.Spec
public import Idealize.ShloMosaic.Lib.WordCmp

/-! The entries of one tile over the extended reals: the ramps of its similarities, and the weights of its pairs. -/

@[expose] public section

set_option maxRecDepth 16384

noncomputable section

namespace Cert.Hist

open Idealize.ShloMosaic Cert.KernelIdeal

variable [Facts]
open Facts₀ Facts

theorem ofBits_25 : Ideal.ofBits .f32 0x41C80000#32 = ((25 : ℝ) : EReal) := by
  simp [Ideal.ofBits, Ideal.ieee]
  rw [← EReal.coe_mul]
  norm_num

theorem ofBits_half : Ideal.ofBits .f32 0x3F000000#32 = ((1 / 2 : ℝ) : EReal) := by
  simp [Ideal.ofBits, Ideal.ieee]
  rw [← EReal.coe_mul]
  norm_num

theorem blkX_apply (x : Vec Ideal S1024x128 .f32) (a : Fin 8) (r k : Fin 128) : blkX x a (ix2 r k) = x (ix2 (rowIx a r) k) := by
  unfold blkX VecWindow.window
  refine congrArg x (funext fun d => Fin.ext ?_)
  match d with
  | ⟨0, _⟩ => show 128 * a.val + 1 * r.val = 128 * a.val + r.val; omega
  | ⟨1, _⟩ => show 0 + 1 * k.val = k.val; omega

theorem blkL_apply (x : Vec Ideal S1024x1 .i32) (a : Fin 8) (r : Fin 128) : blkL (F := Ideal) x a (ix2 r 0) = x (ix2 (rowIx a r) 0) := by
  unfold blkL VecWindow.window
  refine congrArg x (funext fun d => Fin.ext ?_)
  match d with
  | ⟨0, _⟩ => show 128 * a.val + 1 * r.val = 128 * a.val + r.val; omega
  | ⟨1, _⟩ => rfl

theorem blkC_apply (x : Vec Ideal S8x1x128 .i32) (b : Fin 8) (l : Fin 128) : blkC (F := Ideal) x b (ix3 0 0 l) = x (ix3 b 0 l) := by
  unfold blkC VecWindow.window
  refine congrArg x (funext fun d => Fin.ext ?_)
  match d with
  | ⟨0, _⟩ => show b.val + 1 * 0 = b.val; omega
  | ⟨1, _⟩ => rfl
  | ⟨2, _⟩ => show 0 + 1 * l.val = l.val; omega

/-- A tile's place is `25 s + 25`. -/
theorem tileS_apply (x : Vec Ideal S1024x128 .f32) (a b : Fin 8) (r l : Fin 128) :
    tileS x a b (ix2 r l) = simE x (rowIx a r) (rowIx b l) * ((25 : ℝ) : EReal) + ((25 : ℝ) : EReal) := by
  unfold tileS simE
  simp only [← blkX_apply]
  generalize blkX x a = u
  generalize blkX x b = v
  pointwise [place]
  rw [ofBits_25]

/-- A tile's ramp at threshold `k`. -/
theorem ramp_apply (x : Vec Ideal S1024x128 .f32) (a b : Fin 8) (r l : Fin 128) (w : BitVec 32) (k : ℕ)
    (hw : Ideal.ofBits .f32 w = ((k : ℝ) : EReal)) :
    ramp (tileS x a b) w (ix2 r l) = ((rampE (simE x (rowIx a r) (rowIx b l)) k : ℝ) : EReal) := by
  unfold rampE
  rw [coe_unit01, ← tileS_apply, ← hw]
  generalize tileS x a b = s
  pointwise [ramp]

/-- The diagonal tile's weights. -/
theorem diagW_apply (r l : Fin 128) : (diagW (F := Ideal)) (ix2 r l) = (((if r = l then 0 else 1 / 2 : ℝ)) : EReal) := by
  pointwise [diagW]
  rw [ofBits_half, WordCmp.cmpi_eq_ofNat (by omega) (by omega), WordCmp.select_ofBool]
  by_cases h : r = l
  · subst h; simp
  · have h' : ¬ r.val = l.val := fun e => h (Fin.ext e)
    simp [h, h']

/-- Where a tile's labels agree. -/
theorem tileQ_apply (x1 : Vec Ideal S1024x1 .i32) (x2 : Vec Ideal S8x1x128 .i32) (a b : Fin 8) (r l : Fin 128) :
    tileQ (F := Ideal) x1 x2 a b (ix2 r l) = BitVec.ofBool (decide (x1 (ix2 (rowIx a r) 0) = x2 (ix3 b 0 l))) := by
  unfold tileQ
  simp only [← blkL_apply, ← blkC_apply]
  generalize blkL (F := Ideal) x1 a = u
  generalize blkC (F := Ideal) x2 b = v
  pointwise [eqLab]
  exact WordCmp.cmpi_eq_eq _ _

/-- The weights of a diagonal tile's pairs with equal labels. -/
theorem diagE_apply (q : IVec S128x128 1) (r l : Fin 128) (p : Prop) [Decidable p] (hq : q (ix2 r l) = BitVec.ofBool (decide p)) :
    diagE (F := Ideal) q (ix2 r l) = (((if p then (if r = l then 0 else 1 / 2) else 0 : ℝ)) : EReal) := by
  rw [apply_ite (fun z : ℝ => (z : EReal)), ← diagW_apply]
  unfold diagE
  generalize (diagW (F := Ideal)) = d
  pointwise
  rw [hq, WordCmp.select_ofBool]
  by_cases h : p <;> simp [h]

/-- The weights of another tile's pairs with equal labels. -/
theorem offE_apply (q : IVec S128x128 1) (r l : Fin 128) (p : Prop) [Decidable p] (hq : q (ix2 r l) = BitVec.ofBool (decide p)) :
    offE (F := Ideal) q (ix2 r l) = (((if p then 1 else 0 : ℝ)) : EReal) := by
  pointwise [offE]
  rw [hq, WordCmp.select_ofBool]
  by_cases h : p <;> simp [h]

end Cert.Hist
-- ==== Proof.Hist.Sums.lean ====
module

public import proofs.«01_k».proof.Proof.Hist.Entry

/-! The accumulators after the upper triangle's tiles, over the extended reals: lane `l` of a threshold holds a share
of the sum over pairs, and the lanes together the whole sum. -/

@[expose] public section

set_option maxRecDepth 16384

noncomputable section

namespace Cert.Hist

open Idealize.ShloMosaic Cert.KernelIdeal

variable [Facts]
open Facts₀ Facts

/-! ## The tiles one after the other -/

/-- What a diagonal tile adds to lane `l` for the function `G` of pairs. -/
def diagCol (G : Fin 1024 → Fin 1024 → ℝ) (l : Fin 128) (a : Fin 8) : ℝ :=
  ∑ r : Fin 128, G (rowIx a r) (rowIx a l) * (if r = l then 0 else 1 / 2)

/-- What another tile adds to lane `l`. -/
def offCol (G : Fin 1024 → Fin 1024 → ℝ) (l : Fin 128) (a b : Fin 8) : ℝ := ∑ r : Fin 128, G (rowIx a r) (rowIx b l)

/-- What the upper triangle's tiles add to lane `l`. -/
def colSum (G : Fin 1024 → Fin 1024 → ℝ) (l : Fin 128) : ℝ :=
  ∑ a : Fin 8, (diagCol G l a + ∑ b : Fin 8, if a < b then offCol G l a b else 0)

/-- The lanes together hold the sum over pairs. -/
theorem sum_colSum (G : Fin 1024 → Fin 1024 → ℝ) (hG : ∀ i j, G i j = G j i) : ∑ l, colSum G l = pairSum G := by
  rw [pairSum_blocks G hG]
  unfold colSum diagCol offCol
  rw [Finset.sum_comm]
  refine Finset.sum_congr rfl fun a _ => ?_
  rw [Finset.sum_add_distrib]
  congr 1
  rw [Finset.sum_comm]
  refine Finset.sum_congr rfl fun b _ => ?_
  split
  · rfl
  · exact Finset.sum_const_zero

/-- The list of the upper triangle's tiles is all pairs of blocks `a ≤ b`. -/
theorem upper_sum (D : Fin 8 → ℝ) (O : Fin 8 → Fin 8 → ℝ) :
    (upper.map fun r => D r.1 + (r.2.map (O r.1)).sum).sum = ∑ a : Fin 8, (D a + ∑ b : Fin 8, if a < b then O a b else 0) := by
  simp [upper, Fin.sum_univ_eight]
  ring

/-- Tiles that each add a real at an index, one after the other. -/
theorem foldl_tiles {ι : Type} (f : ι → Acc Ideal → Acc Ideal) (ix : S8x1024.Idx) (g : ι → ℝ)
    (h : ∀ b A, f b A ix = A ix + ((g b : ℝ) : EReal)) (cs : List ι) : ∀ A : Acc Ideal,
    cs.foldl (fun A b => f b A) A ix = A ix + (((cs.map g).sum : ℝ) : EReal) := by
  induction cs with
  | nil => intro A; simp
  | cons b cs ih =>
    intro A
    rw [List.foldl_cons, ih, h, List.map_cons, List.sum_cons, EReal.coe_add, add_assoc]

/-- The upper triangle's tiles, at an index where each adds its lane's share. -/
theorem fold_upper (fd : Fin 8 → Acc Ideal → Acc Ideal) (fo : Fin 8 → Fin 8 → Acc Ideal → Acc Ideal) (ix : S8x1024.Idx)
    (G : Fin 1024 → Fin 1024 → ℝ) (l : Fin 128) (hd : ∀ a A, fd a A ix = A ix + ((diagCol G l a : ℝ) : EReal))
    (ho : ∀ a b A, fo a b A ix = A ix + ((offCol G l a b : ℝ) : EReal)) (A : Acc Ideal) :
    upper.foldl (fun A r => r.2.foldl (fun A b => fo r.1 b A) (fd r.1 A)) A ix = A ix + ((colSum G l : ℝ) : EReal) := by
  refine (foldl_tiles (fun (r : Fin 8 × List (Fin 8)) A => r.2.foldl (fun A b => fo r.1 b A) (fd r.1 A)) ix
    (fun r => diagCol G l r.1 + (r.2.map (offCol G l r.1)).sum) (fun r A => ?_) upper A).trans ?_
  · rw [foldl_tiles (fo r.1) ix (offCol G l r.1) (ho r.1), hd, EReal.coe_add, add_assoc]
  · rw [upper_sum]; rfl

/-! ## The tiles of this kernel -/

theorem acc0_apply (ix : S8x1024.Idx) : (acc0 : Acc Ideal) ix = 0 := Ideal.ofBits_zero_f32

/-- The word of threshold `k` in its row. -/
theorem word_val (k : Fin 51) : Ideal.ofBits .f32 (thrWord ⟨k.val / 8, by omega⟩ ⟨k.val % 8, by omega⟩) = ((k.val : ℝ) : EReal) :=
  thrWord_val k _ _ (by show k.val = 8 * (k.val / 8) + k.val % 8; omega)

variable (x0 : Vec Ideal S1024x128 .f32) (x1 : Vec Ideal S1024x1 .i32) (x2 : Vec Ideal S8x1x128 .i32)

/-- A product of two numbers that are real, entry by entry. -/
theorem mulf_coe {φ : FTy} (u v : FVec Ideal S128x128 φ) (i : S128x128.Idx) (a b : ℝ) (hu : u i = (a : EReal)) (hv : v i = (b : EReal)) :
    mulf u v i = ((a * b : ℝ) : EReal) := by
  rw [EReal.coe_mul, ← hu, ← hv]
  rfl

/-- All pairs at threshold `k`: lane `l`'s share of the sum of the ramps. -/
theorem rowsA_acc (k : Fin 51) (l : Fin 128) :
    rowsA x0 upper acc0 (accIx k l) = ((colSum (fun i j => rampE (simE x0 i j) k.val) l : ℝ) : EReal) := by
  refine (fold_upper (diagA x0) (offA x0) (accIx k l) (fun i j => rampE (simE x0 i j) k.val) l (fun a A => ?_) (fun a b A => ?_) acc0).trans
    ((congrArg (· + _) (acc0_apply _)).trans (zero_add _))
  · refine (sweepV_acc _ A k l).trans (congrArg (A (accIx k l) + ·) ((Finset.sum_congr rfl fun r _ => ?_).trans (coe_sum _ _).symm))
    exact mulf_coe _ _ _ _ _ (ramp_apply x0 a a r l _ _ (word_val k)) (diagW_apply r l)
  · refine (sweepV_acc _ A k l).trans (congrArg (A (accIx k l) + ·) ((Finset.sum_congr rfl fun r _ => ?_).trans (coe_sum _ _).symm))
    exact ramp_apply x0 a b r l _ _ (word_val k)

variable (lab : Fin 1024 → BitVec 32) (h1 : ∀ i, x1 (ix2 i 0) = lab i) (h2 : ∀ b l, x2 (ix3 b 0 l) = lab (rowIx b l))

include h1 h2 in
theorem tileQ_lab (a b : Fin 8) (r l : Fin 128) :
    tileQ (F := Ideal) x1 x2 a b (ix2 r l) = BitVec.ofBool (decide (lab (rowIx a r) = lab (rowIx b l))) := by
  rw [tileQ_apply, h1, h2]

include h1 h2 in
/-- Pairs with equal labels at threshold `k`: lane `l`'s share of the sum of the ramps. -/
theorem rowsP_acc (k : Fin 51) (l : Fin 128) :
    rowsP x0 x1 x2 upper acc0 (accIx k l) = ((colSum (fun i j => if lab i = lab j then rampE (simE x0 i j) k.val else 0) l : ℝ) : EReal) := by
  refine (fold_upper (diagP x0 x1 x2) (offP x0 x1 x2) (accIx k l) (fun i j => if lab i = lab j then rampE (simE x0 i j) k.val else 0) l
    (fun a A => ?_) (fun a b A => ?_) acc0).trans ((congrArg (· + _) (acc0_apply _)).trans (zero_add _))
  · refine (addRow1V_acc _ _ k l).trans ((sweepV_acc _ A k l).trans (congrArg (A (accIx k l) + ·) ((Finset.sum_congr rfl fun r _ => ?_).trans (coe_sum _ _).symm)))
    refine (mulf_coe _ _ _ _ _ (ramp_apply x0 a a r l _ _ (word_val k)) (diagE_apply _ r l _ (tileQ_lab x1 x2 lab h1 h2 a a r l))).trans ?_
    by_cases h : lab (rowIx a r) = lab (rowIx a l) <;> simp only [h, if_true, if_false, mul_zero, zero_mul]
  · refine (addRow1V_acc _ _ k l).trans ((sweepV_acc _ A k l).trans (congrArg (A (accIx k l) + ·) ((Finset.sum_congr rfl fun r _ => ?_).trans (coe_sum _ _).symm)))
    refine (mulf_coe _ _ _ _ _ (ramp_apply x0 a b r l _ _ (word_val k)) (offE_apply _ r l _ (tileQ_lab x1 x2 lab h1 h2 a b r l))).trans ?_
    by_cases h : lab (rowIx a r) = lab (rowIx b l) <;> simp only [h, if_true, if_false, mul_zero, mul_one]

include h1 h2 in
/-- The pairs with equal labels: lane `l`'s share of their number. -/
theorem rowsP_cnt (l : Fin 128) :
    rowsP x0 x1 x2 upper acc0 (cntIx l) = ((colSum (fun i j => if lab i = lab j then 1 else 0) l : ℝ) : EReal) := by
  refine (fold_upper (diagP x0 x1 x2) (offP x0 x1 x2) (cntIx l) (fun i j => if lab i = lab j then 1 else 0) l
    (fun a A => ?_) (fun a b A => ?_) acc0).trans ((congrArg (· + _) (acc0_apply _)).trans (zero_add _))
  · refine (addRow1V_cnt _ _ l).trans ((congrArg₂ (· + ·) (sweepV_cnt _ A l) ((sum1_apply _ l).trans ((Finset.sum_congr rfl fun r _ => ?_).trans (coe_sum _ _).symm))))
    refine (diagE_apply _ r l _ (tileQ_lab x1 x2 lab h1 h2 a a r l)).trans ?_
    by_cases h : lab (rowIx a r) = lab (rowIx a l) <;> simp only [h, if_true, if_false, one_mul, zero_mul]
  · refine (addRow1V_cnt _ _ l).trans ((congrArg₂ (· + ·) (sweepV_cnt _ A l) ((sum1_apply _ l).trans ((Finset.sum_congr rfl fun r _ => ?_).trans (coe_sum _ _).symm))))
    exact offE_apply _ r l _ (tileQ_lab x1 x2 lab h1 h2 a b r l)

end Cert.Hist
-- ==== Proof.Hist.Final.lean ====
module

public import proofs.«01_k».proof.Proof.Hist.Sums
public import proofs.«01_k».proof.Proof.Gen.KernelIdeal.Skeleton
public import Idealize.ShloMosaic.Lib.WordCmp

/-! The second launch's one payload over the extended reals: the loss of the histograms that the accumulators hold. -/

@[expose] public section

set_option maxRecDepth 16384

noncomputable section

namespace Cert.Hist

open Idealize.ShloMosaic Cert.KernelIdeal

variable [Facts]
open Facts₀ Facts

theorem ofBits_4092 : Ideal.ofBits .f32 0x457FC000#32 = ((4092 : ℝ) : EReal) := by
  simp [Ideal.ofBits, Ideal.ieee]
  rw [← EReal.coe_mul]
  norm_num

theorem ofBits_523776 : Ideal.ofBits .f32 0x48FFC000#32 = ((523776 : ℝ) : EReal) := by
  simp [Ideal.ofBits, Ideal.ieee]
  rw [← EReal.coe_mul]
  norm_num

/-- The triangle's entry at `(a, b)`: one where `a ≤ b`, zero elsewhere. -/
theorem tri_entry (a b : ℕ) (ha : a < 2 ^ 31) (hb : b < 2 ^ 31) :
    (FloatOps.sitofp .f32 (BitVec.setWidth 32 (IntOp.cmpi .sle (BitVec.ofNat 32 a) (BitVec.ofNat 32 b))) : Ideal .f32)
      = if a ≤ b then (1 : EReal) else 0 := by
  rw [WordCmp.cmpi_sle_ofNat (by omega) (by omega)]
  by_cases h : a ≤ b
  · rw [if_pos h, decide_eq_true h]
    exact (congrArg (fun z : ℤ => ((z : ℝ) : EReal)) (show BitVec.toInt (BitVec.setWidth 32 (BitVec.ofBool true)) = 1 from rfl)).trans (by simp)
  · rw [if_neg h, decide_eq_false h]
    exact (congrArg (fun z : ℤ => ((z : ℝ) : EReal)) (show BitVec.toInt (BitVec.setWidth 32 (BitVec.ofBool false)) = 0 from rfl)).trans (by simp)

theorem mul_tri (x : EReal) (a b : ℕ) (ha : a < 2 ^ 31) (hb : b < 2 ^ 31) :
    x * (FloatOps.sitofp .f32 (BitVec.setWidth 32 (IntOp.cmpi .sle (BitVec.ofNat 32 a) (BitVec.ofNat 32 b))) : Ideal .f32)
      = if a ≤ b then x else 0 := by
  rw [tri_entry a b ha hb]
  split
  · exact mul_one x
  · exact mul_zero x

/-- The payload is the loss of the histograms whose running sums the accumulators hold. -/
theorem pay_value (v0 v2 : Vec Ideal S51x128 .f32) (v4 : Vec Ideal S1x128 .f32) (qa qp : Fin 51 → Fin 128 → ℝ) (cn : Fin 128 → ℝ)
    (h0 : ∀ k l, v0 (ix2 k l) = (qa k l : EReal)) (h2 : ∀ k l, v2 (ix2 k l) = (qp k l : EReal)) (h4 : ∀ l, v4 (ix2 0 l) = (cn l : EReal))
    (hp hn : Fin 51 → ℝ) (np nn : ℝ) (hp0 : hp 0 = ∑ l, (cn l - qp 0 l))
    (hps : ∀ k : Fin 50, hp k.succ = ∑ l, (qp k.castSucc l - qp k.succ l)) (hn0 : hn 0 = ∑ l, (4092 - qa 0 l) - hp 0)
    (hns : ∀ k : Fin 50, hn k.succ = ∑ l, (qa k.castSucc l - qa k.succ l) - hp k.succ) (hnp : np = ∑ l, cn l) (hnn : nn = 523776 - np) :
    Gen.k1_pay1 v0 v2 v4 (ix2 0 0) = loss hp hn np nn := by
  have e : ∀ k : Fin 50, (⟨1 + k.val, by omega⟩ : Fin 51) = k.succ := fun k => Fin.ext (Nat.add_comm _ _)
  have ec : ∀ k : Fin 50, (⟨k.val, by omega⟩ : Fin 51) = k.castSucc := fun k => rfl
  pointwise [Gen.k1_pay1]
  simp only [ofBits_4092, ofBits_523776, h0, h2, h4, e, ec, ← EReal.coe_sub, ← coe_sum, ← hp0, ← hps, ← hn0, ← hns, ← hnp, ← hnn]
  unfold loss
  rw [Fin.sum_univ_succ (n := 50)]
  simp only [Fin.sum_univ_succ (n := 50) (f := fun i : Fin 51 => if _ then _ else _)]
  simp (disch := omega) only [mul_tri]
  simp only [Finset.univ_unique, Finset.sum_singleton]
  refine congrArg₂ (· + ·) (congrArg (Ideal.div _ _ * ·) (congrArg₂ (· + ·) ?_ (Finset.sum_congr rfl fun x _ => ?_)))
    (Finset.sum_congr rfl fun x _ => congrArg (Ideal.div _ _ * ·) (congrArg₂ (· + ·) ?_ (Finset.sum_congr rfl fun y _ => ?_)))
  · exact if_congr (Iff.of_eq (by rw [eq_true (le_refl (0 : ℕ)), eq_true (le_refl (0 : Fin 51))])) rfl rfl
  · exact if_congr (by rw [Fin.le_def, Fin.val_succ, Nat.add_comm]; rfl) rfl rfl
  · exact if_congr (by rw [Fin.le_def, Fin.val_succ, Nat.add_comm]; rfl) rfl rfl
  · exact if_congr (by rw [Fin.le_def, Fin.val_succ, Fin.val_succ, Nat.add_comm, Nat.add_comm 1]) rfl rfl

/-- With the accumulators of all the tiles, the payload is the histogram loss. -/
theorem pay_result (x : Vec Ideal S1024x128 .f32) (lab : Fin 1024 → BitVec 32) (v0 v2 : Vec Ideal S51x128 .f32) (v4 : Vec Ideal S1x128 .f32)
    (h0 : ∀ k l, v0 (ix2 k l) = ((colSum (fun i j => rampE (simE x i j) k.val) l : ℝ) : EReal))
    (h2 : ∀ k l, v2 (ix2 k l) = ((colSum (fun i j => if lab i = lab j then rampE (simE x i j) k.val else 0) l : ℝ) : EReal))
    (h4 : ∀ l, v4 (ix2 0 l) = ((colSum (fun i j => if lab i = lab j then 1 else 0) l : ℝ) : EReal)) :
    Gen.k1_pay1 v0 v2 v4 (ix2 0 0) = result x lab := by
  have sA : ∀ t, ∑ l, colSum (fun i j => rampE (simE x i j) t) l = pairSum fun i j => rampE (simE x i j) t :=
    fun t => sum_colSum _ fun i j => by rw [simE_comm]
  have sP : ∀ t, ∑ l, colSum (fun i j => if lab i = lab j then rampE (simE x i j) t else 0) l
      = pairSum fun i j => if lab i = lab j then rampE (simE x i j) t else 0 :=
    fun t => sum_colSum _ fun i j => by rw [simE_comm]; exact if_congr eq_comm rfl rfl
  have sC : ∑ l, colSum (fun i j => if lab i = lab j then 1 else 0) l = pairCount fun i j => lab i = lab j :=
    sum_colSum _ fun i j => if_congr eq_comm rfl rfl
  have c4 : ∑ _l : Fin 128, (4092 : ℝ) = pairSum fun _ _ => 1 := by
    rw [pairSum_one, Finset.sum_const, Finset.card_univ, Fintype.card_fin, nsmul_eq_mul]; norm_num
  refine pay_value v0 v2 v4 _ _ _ h0 h2 h4 _ _ _ _ ?_ (fun k => ?_) ?_ (fun k => ?_) sC.symm ?_
  · rw [Finset.sum_sub_distrib, sC, sP, pairCount, ← pairSum_sub]
    refine pairSum_congr fun i j _ => ?_
    by_cases h : lab i = lab j <;> simp [h, hatE]
  · rw [Finset.sum_sub_distrib, sP, sP, ← pairSum_sub]
    refine pairSum_congr fun i j _ => ?_
    by_cases h : lab i = lab j <;> simp [h, hatE]
  · rw [Finset.sum_sub_distrib, sA, c4, ← pairSum_sub, binSum, binSum, ← pairSum_sub]
    refine pairSum_congr fun i j _ => ?_
    by_cases h : lab i = lab j <;> simp [h, hatE]
  · rw [Finset.sum_sub_distrib, sA, sA, ← pairSum_sub, binSum, binSum, ← pairSum_sub]
    refine pairSum_congr fun i j _ => ?_
    by_cases h : lab i = lab j <;> simp [h, hatE]
  · rw [← pairSum_one, pairCount, pairCount, ← pairSum_sub]
    refine pairSum_congr fun i j _ => ?_
    by_cases h : lab i = lab j <;> simp [h]

end Cert.Hist
-- ==== Proof.Hist.Result.lean ====
module

public import proofs.«01_k».proof.Proof.Hist.Frame
public import proofs.«01_k».proof.Proof.Hist.Final
public import Idealize.ShloMosaic.Lib.Pipeline.ValueKit
public import Idealize.ShloMosaic.Lib.Pipeline.Value

/-! The kernel's result over the extended reals: what its buffers hold at each boundary of `@main`, up to the loss. -/

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

/-- The labels. -/
def lab (i : Fin 1024) : BitVec 32 := m ((c.tc : Thread nD τ).loc main_arg1) (ix1 i)

/-! ## The first launch's entry -/

theorem W1_v0 : W1 m ρ c (Proc.devRef .tc main_v0) = shapeCast S1024x1 (m ((c.tc : Thread nD τ).loc main_arg1)) Gen.shapeCasts_S1024_S1024x1 := by
  unfold W1
  rw [StableHlo.after_cons, StableHlo.after_cons, StableHlo.after_nil, StableHlo.reshape_result_ne _ _ _ _ _ _ _ (by decide),
    StableHlo.reshape_result]
  rfl

theorem W1_v1 : W1 m ρ c (Proc.devRef .tc main_v1) = shapeCast S8x1x128 (m ((c.tc : Thread nD τ).loc main_arg1)) Gen.shapeCasts_S1024_S8x1x128 := by
  unfold W1
  rw [StableHlo.after_cons, StableHlo.after_cons, StableHlo.after_nil, StableHlo.reshape_result,
    StableHlo.reshape_result_ne _ _ _ _ _ _ _ (by decide)]
  rfl

theorem col_lab (i : Fin 1024) : (W1 m ρ c (Proc.devRef .tc main_v0) : Vec Ideal S1024x1 .i32) (ix2 i 0) = lab m c i := by
  rw [W1_v0]
  pointwise [lab]

theorem row_lab (b : Fin 8) (l : Fin 128) :
    (W1 m ρ c (Proc.devRef .tc main_v1) : Vec Ideal S8x1x128 .i32) (ix3 b 0 l) = lab m c (Hist.rowIx b l) := by
  rw [W1_v1]
  pointwise [lab, Hist.rowIx]
  exact congrArg (fun i => m (c.tc.loc main_arg1) (ix1 i)) (Fin.ext (by show b.val * 128 + l.val = 128 * b.val + l.val; omega))

/-- Every window's block index at the first launch's one point. -/
theorem idx0 : ∀ t : Fin cfg0.N, win0_0.index t = ![0, 0] ∧ win0_1.index t = ![0, 0] ∧ win0_2.index t = ![0, 0, 0]
    ∧ win0_3.index t = ![0, 0] ∧ win0_4.index t = ![0, 0] :=
  (by decide +kernel : ∀ t : Fin grid0.N, _)

theorem iblk0_0 : iblk0 (V1 m ρ) c 0 t0_0 = m ((c : Thread nD τ).loc main_arg0) := by
  blk_ext! [iblk0, V1, idx0 t0_0]

theorem iblk0_1 : iblk0 (V1 m ρ) c 1 t0_0 = W1 m ρ c (Proc.devRef .tc main_v0) := by
  blk_ext! [iblk0, V1, idx0 t0_0]

theorem iblk0_2 : iblk0 (V1 m ρ) c 2 t0_0 = W1 m ρ c (Proc.devRef .tc main_v1) := by
  blk_ext! [iblk0, V1, idx0 t0_0]

/-- The accumulator of the pairs with equal labels. -/
def accP : Vec Ideal S8x1024 .f32 :=
  Hist.rowsP (m ((c.tc : Thread nD τ).loc main_arg0)) (W1 m ρ c (Proc.devRef .tc main_v0)) (W1 m ρ c (Proc.devRef .tc main_v1)) Hist.upper Hist.acc0

/-- The accumulator of all pairs. -/
def accA : Vec Ideal S8x1024 .f32 := Hist.rowsA (m ((c.tc : Thread nD τ).loc main_arg0)) Hist.upper Hist.acc0

theorem final0_3 : (dat0 (V1 m ρ) c).arrAt 3 cfg0.N = accP m ρ c := by
  refine (dat0 (V1 m ρ) c).arrAt_eq_of_after_last 3 t0_0 (by decide +kernel) _ fun j => ?_
  blk_simp
  rw [after0_3]
  unfold accs
  dsimp only
  rw [iblk0_0, iblk0_1, iblk0_2]
  rfl

theorem final0_4 : (dat0 (V1 m ρ) c).arrAt 4 cfg0.N = accA m c := by
  refine (dat0 (V1 m ρ) c).arrAt_eq_of_after_last 4 t0_0 (by decide +kernel) _ fun j => ?_
  blk_simp
  rw [after0_4]
  unfold accs
  dsimp only
  rw [iblk0_0]
  rfl

/-! ## The second launch's entry and result -/

theorem W3_v3 : W3 m ρ c (Proc.devRef .tc main_v3) = shapeCast S64x128 (accP m ρ c) Gen.shapeCasts_S8x1024_S64x128 := by
  unfold W3
  rw [StableHlo.after_cons, StableHlo.after_cons, StableHlo.after_nil, StableHlo.reshape_result_ne _ _ _ _ _ _ _ (by decide),
    StableHlo.reshape_result]
  rw [show W2 m ρ c (Proc.devRef .tc main_v2_0) = accP m ρ c from (W2_arr m ρ c 3).trans (final0_3 m ρ c)]
  rfl

theorem W3_v4 : W3 m ρ c (Proc.devRef .tc main_v4) = shapeCast S64x128 (accA m c) Gen.shapeCasts_S8x1024_S64x128 := by
  unfold W3
  rw [StableHlo.after_cons, StableHlo.after_cons, StableHlo.after_nil, StableHlo.reshape_result,
    StableHlo.reshape_result_ne _ _ _ _ _ _ _ (by decide)]
  rw [show W2 m ρ c (Proc.devRef .tc main_v2_1) = accA m c from (W2_arr m ρ c 4).trans (final0_4 m ρ c)]
  rfl

/-- Every window's block index at the second launch's one point. -/
theorem idx1 : ∀ t : Fin cfg1.N, win1_0.index t = ![0, 0] ∧ win1_1.index t = ![0, 0] ∧ win1_2.index t = ![0, 0] :=
  (by decide +kernel : ∀ t : Fin grid1.N, _)

theorem iblk1_0 : iblk1 (V3 m ρ) c 0 t1_0 = W3 m ρ c (Proc.devRef .tc main_v3) := by
  blk_ext! [iblk1, V3, idx1 t1_0]

theorem iblk1_1 : iblk1 (V3 m ρ) c 1 t1_0 = W3 m ρ c (Proc.devRef .tc main_v4) := by
  blk_ext! [iblk1, V3, idx1 t1_0]

theorem ld_rows (v : Vec Ideal S64x128 .f32) (k : Fin 51) (l : Fin 128) : View.ld v r1_0 (ix2 k l) = v (ix2 ⟨k.val, by omega⟩ l) :=
  congrArg v (funext fun a => Fin.ext (by match a with | ⟨0, _⟩ => simp | ⟨1, _⟩ => simp))

theorem ld_counts (v : Vec Ideal S64x128 .f32) (l : Fin 128) : View.ld v r1_1 (ix2 0 l) = v (ix2 56 l) :=
  congrArg v (funext fun a => Fin.ext (by match a with | ⟨0, _⟩ => simp | ⟨1, _⟩ => simp))

/-- The accumulators' row of threshold `k`, after the reshape. -/
theorem cast_acc (v : Vec Ideal S8x1024 .f32) (k : Fin 51) (l : Fin 128) :
    shapeCast S64x128 v Gen.shapeCasts_S8x1024_S64x128 (ix2 ⟨k.val, by omega⟩ l) = v (Hist.accIx k l) := by
  pointwise [Hist.accIx]
  exact congrArg (fun i => v (ix2 _ i)) (Fin.ext (by show k.val % 8 * 128 + l.val = 128 * (k.val % 8) + l.val; omega))

theorem cast_cnt (v : Vec Ideal S8x1024 .f32) (l : Fin 128) :
    shapeCast S64x128 v Gen.shapeCasts_S8x1024_S64x128 (ix2 56 l) = v (Hist.cntIx l) := by
  pointwise [Hist.cntIx]

/-- The loss of the rows and their labels. -/
def loss : EReal := Hist.result (m ((c.tc : Thread nD τ).loc main_arg0)) (lab m c)

theorem final1_2 : (dat1 (V3 m ρ) c).arrAt 2 cfg1.N = fun _ => loss m c := by
  refine (dat1 (V3 m ρ) c).arrAt_eq_of_after_last 2 t1_0 (by decide +kernel) _ fun j => ?_
  blk_simp
  rw [after1_2, iblk1_0, iblk1_1, W3_v3, W3_v4]
  unfold out1_2
  frame_out
  rw [show j = ix2 0 0 from funext fun a => Fin.ext (by match a with | ⟨0, _⟩ => exact Nat.lt_one_iff.mp (j _).isLt | ⟨1, _⟩ => exact Nat.lt_one_iff.mp (j _).isLt)]
  refine Hist.pay_result (m ((c.tc : Thread nD τ).loc main_arg0)) (lab m c) _ _ _ (fun k l => ?_) (fun k l => ?_) (fun l => ?_)
  · rw [ld_rows, cast_acc]
    exact Hist.rowsA_acc _ k l
  · rw [ld_rows, cast_acc]
    exact Hist.rowsP_acc _ _ _ _ (col_lab m ρ c) (row_lab m ρ c) k l
  · rw [ld_counts, cast_cnt]
    exact Hist.rowsP_cnt _ _ _ _ (col_lab m ρ c) (row_lab m ρ c) l

theorem W5_v6 : W5 m ρ c (Proc.devRef .tc main_v6) = fun _ => loss m c := by
  unfold W5
  rw [StableHlo.after_cons, StableHlo.after_nil, StableHlo.reshape_result,
    show W4 m ρ c (Proc.devRef .tc main_v5) = fun _ => loss m c from (W4_arr m ρ c 2).trans (final1_2 m ρ c)]
  rfl

end Cert.KernelIdeal.Val
-- ==== Proof.Hist.RefTerm.lean ====
module

public import proofs.«01_k».proof.Proof.Gen.ReferenceIdeal.Run

/-! The reference's term by parts: similarities, bin width, bins, weights, masks, one histogram. -/

@[expose] public section

set_option maxRecDepth 16384

noncomputable section

namespace Cert.Hist.Ref

open Idealize.ShloMosaic Cert.ReferenceIdeal Cert.ReferenceIdeal.Gen

variable {F : FTy → Type} [FloatOps F]

/-- A scalar at every pair. -/
abbrev allPairs {α : Type} (v : S_.Idx → α) : S1024x1024.Idx → α := broadcastInDim S1024x1024 ![] bcast_S_S1024x1024 v

def sim (x : FVec F S1024x128 .f32) : FVec F S1024x1024 .f32 :=
  Host.dotGeneral dot_S1024x128_S128x1024_S1024x1024_1_0_0_1_n_n none x (transpose S128x1024 [1, 0] x transposes_S1024x128_S128x1024_1_0)

def one : FVec F S1024x1024 .f32 := allPairs (constant S_ .f32 0x3F800000#32)

def width : FVec F S1024x1024 .f32 := allPairs (Host.divf (constant S_ .f32 0x40000000#32) (constant S_ .f32 0x42480000#32))

def bin (s : FVec F S1024x1024 .f32) : IVec S1024x1024 32 := fptosi 32 (Host.floor (Host.divf (addf s one) width))

/-- A bin number below zero counts from the end. -/
def wrapped (b : IVec S1024x1024 32) : IVec S1024x1024 32 :=
  select (cmpi .slt b (allPairs (constantI S_ 32 0#32))) (addi b (allPairs (constantI S_ 32 51#32))) b

def nextBin (b : IVec S1024x1024 32) : IVec S1024x1024 32 :=
  minsi (allPairs (id (constantI S_ 32 50#32))) (maxsi (allPairs (id (constantI S_ 32 0#32))) (addi b (allPairs (constantI S_ 32 1#32))))

/-- The lower edge of a bin. -/
def edge (b : IVec S1024x1024 32) : FVec F S1024x1024 .f32 := subf (mulf (sitofp .f32 b) width) one

def wLo (s : FVec F S1024x1024 .f32) : FVec F S1024x1024 .f32 := Host.divf (subf (addf (edge (bin s)) width) s) width

def wHi (s : FVec F S1024x1024 .f32) : FVec F S1024x1024 .f32 := Host.divf (subf s (edge (bin s))) width

/-- A vector's entry at a pair's first row, and at its second. -/
def first (l : IVec S1024 32) : IVec S1024x1024 32 :=
  broadcastInDim S1024x1024 ![0, 1] bcast_S1024x1_S1024x1024_0_1 (broadcastInDim S1024x1 ![0] bcast_S1024_S1024x1_0 l)
def second (l : IVec S1024 32) : IVec S1024x1024 32 :=
  broadcastInDim S1024x1024 ![0, 1] bcast_S1x1024_S1024x1024_0_1 (broadcastInDim S1x1024 ![1] bcast_S1024_S1x1024_1 l)

def eqMask (l : IVec S1024 32) : IVec S1024x1024 1 := cmpi .eq (first l) (second l)
def ltMask : IVec S1024x1024 1 := cmpi .slt (first (iotaInDim S1024 32 0)) (second (iotaInDim S1024 32 0))
def posMask (l : IVec S1024 32) : FVec F S1024x1024 .f32 := uitofp .f32 (andi (eqMask l) ltMask)
def negMask (l : IVec S1024 32) : FVec F S1024x1024 .f32 := uitofp .f32 (andi (noti (eqMask l)) ltMask)

/-- Weights added at their bins. -/
def scatter (h : FVec F S51 .f32) (b : IVec S1024x1024 32) (w : FVec F S1024x1024 .f32) : FVec F S51 .f32 :=
  Host.scatterAdd scatter_S51_S1024x1024x1_S1024x1024_n_0_0_2 h
    (broadcastInDim S1024x1024x1 ![0, 1] bcast_S1024x1024_S1024x1024x1_0_1 (wrapped b)) w

def counts (s M : FVec F S1024x1024 .f32) : FVec F S51 .f32 :=
  scatter (scatter (broadcastInDim S51 ![] bcast_S_S51 (constant S_ .f32 0x00000000#32)) (bin s) (mulf (wLo s) M))
    (nextBin (bin s)) (mulf (wHi s) M)

def number (M : FVec F S1024x1024 .f32) : FVec F S_ .f32 :=
  Host.reduceAdd M (constant S_ .f32 0x00000000#32) reducesTo_S1024x1024_S_d0_1 h_S_

def hist (s M : FVec F S1024x1024 .f32) : FVec F S51 .f32 := Host.divf (counts s M) (broadcastInDim S51 ![] bcast_S_S51 (number M))

/-- Running sums. -/
def cumul (h : FVec F S51 .f32) : FVec F S51 .f32 :=
  Host.reduceWindowAdd ![51] ![1] ![50] ![0] h (broadcastInDim S_ ![] bcast_S_S_ (constant S_ .f32 0x00000000#32))
    reduceWindows_S51_S51_w51s1p50_0 h_S_

def total (x : FVec F S1024x128 .f32) (l : IVec S1024 32) : FVec F S_ .f32 :=
  Host.reduceAdd (mulf (hist (sim x) (negMask (F := F) l)) (cumul (hist (sim x) (posMask (F := F) l)))) (constant S_ .f32 0x00000000#32)
    reducesTo_S51_S_d0 h_S_

theorem res_eq (m : (ℓ : Loc nD τ sig) → Buf (Elt F) ℓ) (c : Dev nD) :
    Value.res_main_v83 m c = total (m ((c.tc : Thread nD τ).loc main_arg0)) (m ((c.tc : Thread nD τ).loc main_arg1)) := by
  unfold Value.res_main_v83
  rfl

end Cert.Hist.Ref
-- ==== Proof.Hist.RefPair.lean ====
module

public import proofs.«01_k».proof.Proof.Hist.RefTerm
public import proofs.«01_k».proof.Proof.Hist.Spec
public import Idealize.ShloMosaic.Lib.WordCmp
public import Idealize.ShloMosaic.Lib.Pointwise

/-! The reference at one pair over the extended reals: its similarity, bins, weights and masks. -/

@[expose] public section

set_option maxRecDepth 16384

noncomputable section

namespace Cert.Hist.Ref

open Idealize.ShloMosaic Cert.ReferenceIdeal Cert.ReferenceIdeal.Gen

theorem sim_apply (x : FVec Ideal S1024x128 .f32) (i j : Fin 1024) : sim x (ix2 i j) = simE x i j := by
  pointwise [sim, simE]

theorem one_apply (i : S1024x1024.Idx) : (one : FVec Ideal S1024x1024 .f32) i = ((1 : ℝ) : EReal) := by
  show Ideal.ofBits .f32 0x3F800000#32 = _
  simp [Ideal.ofBits, Ideal.ieee]
  rw [← EReal.coe_mul, ← EReal.coe_one]
  norm_num

theorem width_apply (i : S1024x1024.Idx) : (width : FVec Ideal S1024x1024 .f32) i = ((1 / 25 : ℝ) : EReal) := by
  have h2 : Ideal.ofBits .f32 0x40000000#32 = ((2 : ℝ) : EReal) := by
    simp [Ideal.ofBits, Ideal.ieee]
    rw [← EReal.coe_mul]
    norm_num
  have h50 : Ideal.ofBits .f32 0x42480000#32 = ((50 : ℝ) : EReal) := by
    simp [Ideal.ofBits, Ideal.ieee]
    rw [← EReal.coe_mul]
    norm_num
  show Ideal.div (Ideal.ofBits .f32 0x40000000#32) (Ideal.ofBits .f32 0x42480000#32) = _
  rw [h2, h50, Ideal.div_coe (by norm_num), ← EReal.coe_mul]
  norm_num

/-- A real divided by the width. -/
theorem div_width (r : ℝ) : Ideal.div (r : EReal) ((1 / 25 : ℝ) : EReal) = ((25 * r : ℝ) : EReal) := by
  rw [Ideal.div_coe (by norm_num), ← EReal.coe_mul]
  congr 1
  ring

/-- A pair's bin is the integer part of `25 σ + 25`. -/
theorem bin_apply (s : FVec Ideal S1024x1024 .f32) (i : S1024x1024.Idx) (σ : ℝ) (hs : s i = (σ : EReal)) (n : ℕ) (hn : n ≤ 50)
    (h0 : (n : ℝ) ≤ 25 * σ + 25) (h1 : 25 * σ + 25 < n + 1) : bin s i = BitVec.ofNat 32 n := by
  have hf : ⌊25 * (σ + 1)⌋ = (n : ℤ) := by
    rw [Int.floor_eq_iff]
    constructor <;> push_cast <;> linarith
  show Ideal.fptosi 32 (Ideal.liftRound (fun r => ⌊r⌋) (Ideal.div (s i + (one : FVec Ideal S1024x1024 .f32) i) ((width : FVec Ideal S1024x1024 .f32) i))) = _
  rw [one_apply, width_apply, hs, ← EReal.coe_add, div_width, Ideal.liftRound_coe, hf, Ideal.fptosi, Ideal.toIntClamped_coe,
    if_pos (by positivity), Int.cast_natCast, Int.floor_natCast]
  interval_cases n <;> rfl

theorem toInt_small (n : ℕ) (hn : n ≤ 51) : (BitVec.ofNat 32 n).toInt = n := WordCmp.toInt_ofNat_of_lt (by omega)

theorem edge_apply (b : IVec S1024x1024 32) (i : S1024x1024.Idx) (n : ℕ) (hn : n ≤ 50) (hb : b i = BitVec.ofNat 32 n) :
    (edge b : FVec Ideal S1024x1024 .f32) i = ((n / 25 - 1 : ℝ) : EReal) := by
  show ((((b i).toInt : ℤ) : ℝ) : EReal) * (width : FVec Ideal S1024x1024 .f32) i - (one : FVec Ideal S1024x1024 .f32) i = _
  rw [hb, toInt_small n (by omega), width_apply, one_apply, ← EReal.coe_mul, ← EReal.coe_sub]
  congr 1
  push_cast
  ring

theorem wLo_apply (s : FVec Ideal S1024x1024 .f32) (i : S1024x1024.Idx) (σ : ℝ) (hs : s i = (σ : EReal)) (n : ℕ) (hn : n ≤ 50)
    (hb : bin s i = BitVec.ofNat 32 n) : wLo s i = (((n : ℝ) + 1 - (25 * σ + 25) : ℝ) : EReal) := by
  show Ideal.div ((edge (bin s) : FVec Ideal S1024x1024 .f32) i + (width : FVec Ideal S1024x1024 .f32) i - s i) ((width : FVec Ideal S1024x1024 .f32) i) = _
  rw [edge_apply _ i n hn hb, width_apply, hs, ← EReal.coe_add, ← EReal.coe_sub, div_width]
  congr 1
  ring

theorem wHi_apply (s : FVec Ideal S1024x1024 .f32) (i : S1024x1024.Idx) (σ : ℝ) (hs : s i = (σ : EReal)) (n : ℕ) (hn : n ≤ 50)
    (hb : bin s i = BitVec.ofNat 32 n) : wHi s i = ((25 * σ + 25 - (n : ℝ) : ℝ) : EReal) := by
  show Ideal.div (s i - (edge (bin s) : FVec Ideal S1024x1024 .f32) i) ((width : FVec Ideal S1024x1024 .f32) i) = _
  rw [edge_apply _ i n hn hb, width_apply, hs, ← EReal.coe_sub, div_width]
  congr 1
  ring

/-- A bin that is not below zero is itself. -/
theorem wrapped_apply (b : IVec S1024x1024 32) (i : S1024x1024.Idx) (n : ℕ) (hn : n ≤ 50) (hb : b i = BitVec.ofNat 32 n) :
    wrapped b i = BitVec.ofNat 32 n := by
  show Scalar.select (IntOp.cmpi .slt (b i) 0#32) (b i + 51#32) (b i) = _
  rw [hb]
  interval_cases n <;> rfl

/-- The next bin, at most the last one. -/
theorem nextBin_apply (b : IVec S1024x1024 32) (i : S1024x1024.Idx) (n : ℕ) (hn : n ≤ 50) (hb : b i = BitVec.ofNat 32 n) :
    nextBin b i = BitVec.ofNat 32 (min 50 (n + 1)) := by
  show IntOp.minsi 50#32 (IntOp.maxsi 0#32 (b i + 1#32)) = _
  rw [hb]
  interval_cases n <;> rfl

theorem eqMask_apply (l : IVec S1024 32) (i j : Fin 1024) : eqMask l (ix2 i j) = BitVec.ofBool (decide (l (ix1 i) = l (ix1 j))) := by
  pointwise [eqMask, first, second]
  exact WordCmp.cmpi_eq_eq _ _

theorem ltMask_apply (i j : Fin 1024) : ltMask (ix2 i j) = BitVec.ofBool (decide (i < j)) := by
  pointwise [ltMask, first, second]
  rw [WordCmp.cmpi_slt_ofNat (by omega) (by omega)]
  rfl

theorem posMask_apply (l : IVec S1024 32) (i j : Fin 1024) :
    (posMask l : FVec Ideal S1024x1024 .f32) (ix2 i j) = if i < j then (if l (ix1 i) = l (ix1 j) then 1 else 0) else 0 := by
  show ((((eqMask l (ix2 i j) &&& ltMask (ix2 i j)).toNat : ℕ) : ℝ) : EReal) = _
  rw [eqMask_apply, ltMask_apply]
  by_cases h : i < j <;> by_cases h' : l (ix1 i) = l (ix1 j) <;> simp [h, h']

theorem negMask_apply (l : IVec S1024 32) (i j : Fin 1024) :
    (negMask l : FVec Ideal S1024x1024 .f32) (ix2 i j) = if i < j then (if ¬ l (ix1 i) = l (ix1 j) then 1 else 0) else 0 := by
  show ((((~~~ (eqMask l (ix2 i j)) &&& ltMask (ix2 i j)).toNat : ℕ) : ℝ) : EReal) = _
  rw [eqMask_apply, ltMask_apply]
  by_cases h : i < j <;> by_cases h' : l (ix1 i) = l (ix1 j) <;> simp [h, h']

end Cert.Hist.Ref
-- ==== Proof.Hist.RefSum.lean ====
module

public import proofs.«01_k».proof.Proof.Hist.RefTerm
public import proofs.«01_k».proof.Proof.Hist.Spec
public import Idealize.ShloMosaic.Lib.WordCmp
public import Idealize.ShloMosaic.Lib.Routing.OpsPair
public import Idealize.ShloMosaic.Lib.Routing.Ops
public import Idealize.ShloMosaic.Lib.Pointwise

/-! The reference's sums over the extended reals: over the pairs, into the bins, and along the bins. -/

@[expose] public section

set_option maxRecDepth 16384

noncomputable section

namespace Cert.Hist.Ref

open Idealize.ShloMosaic Cert.ReferenceIdeal Cert.ReferenceIdeal.Gen

theorem number_apply (M : FVec Ideal S1024x1024 .f32) : number M ix0 = ∑ i : Fin 1024, ∑ j : Fin 1024, M (ix2 i j) := by
  pointwise [number]

theorem sum_bins (u v : FVec Ideal S51 .f32) :
    Host.reduceAdd (mulf u v) (constant S_ .f32 0x00000000#32) reducesTo_S51_S_d0 h_S_ ix0 = ∑ k : Fin 51, u (ix1 k) * v (ix1 k) := by
  unfold Host.reduceAdd
  simp only [Ideal.hostReduceAdd_def]
  unfold Ideal.hostReduceAdd
  rw [Finset.filter_true_of_mem fun _ _ => funext fun a => a.elim0]
  refine (congrArg₂ (· + ·) Ideal.ofBits_zero_f32 (sum_idx1 fun i => u i * v i)).trans (zero_add _)

theorem total_apply (x : FVec Ideal S1024x128 .f32) (l : IVec S1024 32) :
    total x l ix0 = ∑ k : Fin 51, hist (sim x) (negMask (F := Ideal) l) (ix1 k) * cumul (hist (sim x) (posMask (F := Ideal) l)) (ix1 k) := by
  unfold total
  rw [sum_bins]

theorem hist_apply (s M : FVec Ideal S1024x1024 .f32) (k : Fin 51) :
    hist s M (ix1 k) = Ideal.div (counts s M (ix1 k)) (number M ix0) := by
  pointwise [hist]

theorem scatter_apply (h : FVec Ideal S51 .f32) (b : IVec S1024x1024 32) (w : FVec Ideal S1024x1024 .f32) (k : Fin 51) :
    scatter h b w (ix1 k)
      = h (ix1 k) + ∑ i : Fin 1024, ∑ j : Fin 1024, if (wrapped b (ix2 i j)).toInt = (k.val : ℤ) then w (ix2 i j) else 0 := by
  unfold scatter
  show Ideal.hostScatterAdd _ _ _ _ _ = _
  unfold Ideal.hostScatterAdd
  refine congrArg (h (ix1 k) + ·) ?_
  rw [Finset.sum_filter, sum_idx2]
  refine Finset.sum_congr rfl fun i _ => Finset.sum_congr rfl fun j _ => if_congr ?_ rfl rfl
  refine (Routing.resultIdx?_ix1 _ _ _ k).trans ?_

  have hw : scatter_S51_S1024x1024x1_S1024x1024_n_0_0_2.window (ix2 i j) 0 = 0 := by
    unfold ScatterDims.window
    exact dif_neg (by decide)
  have hs : scatter_S51_S1024x1024x1_S1024x1024_n_0_0_2.start (ix2 i j)
      (broadcastInDim S1024x1024x1 ![0, 1] bcast_S1024x1024_S1024x1024x1_0_1 (wrapped b)) 0 = (wrapped b (ix2 i j)).toInt := by
    unfold ScatterDims.start
    refine (dif_pos (by decide)).trans (congrArg BitVec.toInt (congrArg (wrapped b) (funext fun a => Fin.ext ?_)))
    match a with
    | ⟨0, _⟩ => rfl
    | ⟨1, _⟩ => rfl
  rw [hw, hs, Nat.cast_zero, add_zero]

/-- A running sum over the extended reals. -/
theorem foldl_add_sum {ι : Type} (f : ι → EReal) (L : List ι) : ∀ a : EReal, L.foldl (fun a n => a + f n) a = a + (L.map f).sum := by
  induction L with
  | nil => intro a; simp
  | cons n L ih => intro a; rw [List.foldl_cons, ih, List.map_cons, List.sum_cons, add_assoc]

theorem cumul_apply (v : FVec Ideal S51 .f32) (j : Fin 51) : cumul v (ix1 j) = ∑ i : Fin 51, if i ≤ j then v (ix1 i) else 0 := by
  have hj := j.isLt
  unfold cumul Host.reduceWindowAdd
  simp only [Ideal.hostReduceWindowAdd_def]
  unfold Ideal.hostReduceWindowAdd Host.reduceWindow
  have h0 : (broadcastInDim S_ ![] bcast_S_S_ (constant S_ FTy.f32 0#32) (Shape.Idx.first h_S_) : Ideal .f32) = 0 := Ideal.ofBits_zero_f32
  rw [h0]
  dsimp only
  rw [foldl_add_sum, ← Fin.sum_univ_def, zero_add]
  refine (Fintype.sum_equiv (finCongr (Routing.numel1 51)) _ (fun n : Fin 51 => if h : 50 ≤ j.val + n.val then v (ix1 ⟨j.val + n.val - 50, by omega⟩) else 0)
    fun n => ?_).trans ?_
  · have hw : (((⟨1, ![51]⟩ : Shape).rowMajor.symm n) 0).val = n.val := by rw [Routing.symm1]; rfl
    have hn : n.val < 51 := (n.cast (Routing.numel1 51)).isLt
    have hv : ((finCongr (Routing.numel1 51)) n).val = n.val := rfl
    by_cases h : 50 ≤ j.val + n.val
    · rw [dif_pos (c := 50 ≤ j.val + ((finCongr (Routing.numel1 51)) n).val) h]
      refine (dif_pos fun a => ?_).trans (congrArg v (funext fun a => Fin.ext ?_))
      · match a with
        | ⟨0, _⟩ =>
          show 50 ≤ j.val * 1 + (((⟨1, ![51]⟩ : Shape).rowMajor.symm n) 0).val
            ∧ j.val * 1 + (((⟨1, ![51]⟩ : Shape).rowMajor.symm n) 0).val - 50 < 51
          rw [hw]
          omega
      · match a with
        | ⟨0, _⟩ =>
          show j.val * 1 + (((⟨1, ![51]⟩ : Shape).rowMajor.symm n) 0).val - 50 = j.val + n.val - 50
          rw [hw, Nat.mul_one]
    · rw [dif_neg (c := 50 ≤ j.val + ((finCongr (Routing.numel1 51)) n).val) h]
      refine dif_neg fun hin => h ?_
      have h0 := (hin 0).1
      change 50 ≤ j.val * 1 + (((⟨1, ![51]⟩ : Shape).rowMajor.symm n) 0).val at h0
      rw [hw] at h0
      omega
  · let e : Fin 51 ≃ Fin 51 :=
      { toFun := fun n => ⟨if 50 ≤ j.val + n.val then j.val + n.val - 50 else j.val + n.val + 1, by split <;> omega⟩
        invFun := fun i => ⟨if i.val ≤ j.val then i.val + 50 - j.val else i.val - j.val - 1, by split <;> omega⟩
        left_inv := fun n => Fin.ext (by dsimp only; split_ifs <;> omega)
        right_inv := fun i => Fin.ext (by dsimp only; split_ifs <;> omega) }
    refine Fintype.sum_equiv e _ _ fun n => ?_
    have hn := n.isLt
    by_cases h : 50 ≤ j.val + n.val
    · have he : e n = ⟨j.val + n.val - 50, by omega⟩ := Fin.ext (if_pos h)
      rw [dif_pos h, he, if_pos (by show j.val + n.val - 50 ≤ j.val; omega)]
    · have he : e n = ⟨j.val + n.val + 1, by omega⟩ := Fin.ext (if_neg h)
      rw [dif_neg h, he, if_neg (by show ¬ j.val + n.val + 1 ≤ j.val; omega)]

end Cert.Hist.Ref
-- ==== Proof.Hist.RefValue.lean ====
module

public import proofs.«01_k».proof.Proof.Hist.RefPair
public import proofs.«01_k».proof.Proof.Hist.RefSum

/-! The reference's result over the extended reals: the loss, where every pair's similarity is between -1 and 1. -/

@[expose] public section

set_option maxRecDepth 16384

noncomputable section

namespace Cert.Hist.Ref

open Idealize.ShloMosaic Cert.ReferenceIdeal Cert.ReferenceIdeal.Gen

/-- A sum over all pairs of reals. -/
theorem coe_pairSum (M : FVec Ideal S1024x1024 .f32) (G : Fin 1024 → Fin 1024 → ℝ)
    (h : ∀ i j, M (ix2 i j) = (((if i < j then G i j else 0 : ℝ)) : EReal)) : ∑ i, ∑ j, M (ix2 i j) = ((pairSum G : ℝ) : EReal) := by
  unfold pairSum
  rw [coe_sum]
  refine Finset.sum_congr rfl fun i _ => ?_
  rw [coe_sum]
  exact Finset.sum_congr rfl fun j _ => h i j

/-- What a mask of the pairs `p` holds. -/
def IsMask (M : FVec Ideal S1024x1024 .f32) (p : Fin 1024 → Fin 1024 → Prop) [∀ i j, Decidable (p i j)] : Prop :=
  ∀ i j, M (ix2 i j) = if i < j then (if p i j then 1 else 0) else 0

variable (x : FVec Ideal S1024x128 .f32) (hx : ∀ i j, i < j → ∃ σ : ℝ, simE x i j = (σ : EReal) ∧ -1 ≤ σ ∧ σ ≤ 1)
  (M : FVec Ideal S1024x1024 .f32) (p : Fin 1024 → Fin 1024 → Prop) [∀ i j, Decidable (p i j)] (hM : IsMask M p)

include hM in
theorem number_mask : number M ix0 = ((pairCount p : ℝ) : EReal) := by
  rw [number_apply]
  refine coe_pairSum _ _ fun i j => ?_
  rw [hM]
  by_cases h : i < j <;> by_cases h' : p i j <;> simp [h, h']

include hx hM in
/-- One pair's two weights, at bin `k`. -/
theorem pair_weights (k : Fin 51) (i j : Fin 1024) :
    (if (wrapped (bin (sim x)) (ix2 i j)).toInt = (k.val : ℤ) then mulf (wLo (sim x)) M (ix2 i j) else 0)
      + (if (wrapped (nextBin (bin (sim x))) (ix2 i j)).toInt = (k.val : ℤ) then mulf (wHi (sim x)) M (ix2 i j) else 0)
      = (((if i < j then (if p i j then hatE (simE x i j) k.val else 0) else 0 : ℝ)) : EReal) := by
  have hm := hM i j
  have hlo : mulf (wLo (sim x)) M (ix2 i j) = wLo (sim x) (ix2 i j) * M (ix2 i j) := rfl
  have hhi : mulf (wHi (sim x)) M (ix2 i j) = wHi (sim x) (ix2 i j) * M (ix2 i j) := rfl
  rw [hlo, hhi, hm]
  by_cases h : i < j
  · by_cases h' : p i j
    · obtain ⟨σ, hσ, h0, h1⟩ := hx i j h
      have hs : sim x (ix2 i j) = (σ : EReal) := (sim_apply x i j).trans hσ
      have hp : (0 : ℝ) ≤ 25 * σ + 25 := by linarith
      have n0 : ((⌊25 * σ + 25⌋₊ : ℕ) : ℝ) ≤ 25 * σ + 25 := Nat.floor_le hp
      have n1 : 25 * σ + 25 < (⌊25 * σ + 25⌋₊ : ℕ) + 1 := Nat.lt_floor_add_one _
      have n50 : ⌊25 * σ + 25⌋₊ ≤ 50 := by
        have : ((⌊25 * σ + 25⌋₊ : ℕ) : ℝ) ≤ 50 := by linarith
        exact_mod_cast this
      generalize ⌊25 * σ + 25⌋₊ = n at n0 n1 n50
      have hb := bin_apply (sim x) (ix2 i j) σ hs n n50 n0 n1
      rw [wrapped_apply _ _ n n50 hb, wrapped_apply _ _ (min 50 (n + 1)) (by omega) (nextBin_apply _ _ n n50 hb),
        toInt_small n (by omega), toInt_small (min 50 (n + 1)) (by omega), wLo_apply _ _ σ hs n n50 hb, wHi_apply _ _ σ hs n n50 hb,
        if_pos h, if_pos h', if_pos h, if_pos h', mul_one, mul_one, hσ, ← hat_split σ h0 h1 n n0 n1 k.val (by omega), EReal.coe_add]
      simp only [Nat.cast_inj]
      congr 1
      · split <;> rfl
      · split <;> rfl
    · simp [h, h']
  · simp [h]

include hx hM in
theorem counts_mask (k : Fin 51) : counts (sim x) M (ix1 k) = ((binSum x p k : ℝ) : EReal) := by
  have hz : (broadcastInDim S51 ![] bcast_S_S51 (constant S_ .f32 0x00000000#32) : FVec Ideal S51 .f32) (ix1 k) = 0 := Ideal.ofBits_zero_f32
  unfold counts
  rw [scatter_apply, scatter_apply, hz, zero_add, ← Finset.sum_add_distrib]
  unfold binSum pairSum
  rw [coe_sum]
  refine Finset.sum_congr rfl fun i _ => ?_
  rw [coe_sum, ← Finset.sum_add_distrib]
  exact Finset.sum_congr rfl fun j _ => pair_weights x hx M p hM k i j

include hx hM in
theorem hist_mask (k : Fin 51) : hist (sim x) M (ix1 k) = Ideal.div ((binSum x p k : ℝ) : EReal) ((pairCount p : ℝ) : EReal) := by
  rw [hist_apply, counts_mask x hx M p hM, number_mask M p hM]

include hx in
/-- The reference's result is the histogram loss. -/
theorem total_value (l : IVec S1024 32) : total x l ix0 = result x fun i => l (ix1 i) := by
  rw [total_apply]
  unfold result loss
  refine Finset.sum_congr rfl fun k _ => ?_
  rw [hist_mask x hx _ (fun i j => ¬ l (ix1 i) = l (ix1 j)) (negMask_apply l), cumul_apply]
  refine congrArg (Ideal.div _ _ * ·) (Finset.sum_congr rfl fun i _ => ?_)
  rw [hist_mask x hx _ (fun i j => l (ix1 i) = l (ix1 j)) (posMask_apply l)]

end Cert.Hist.Ref
-- ==== Proof.Hist.Range.lean ====
module

public import proofs.«01_k».proof.Proof.Gen.Pre_similarities_in_range
public import proofs.«01_k».proof.Proof.Hist.Spec
public import Idealize.ShloMosaic.Lib.ReduceAll
public import Idealize.ShloMosaic.Lib.WordCmp
public import Idealize.ShloMosaic.Lib.Pointwise

/-! What the precondition says: every pair's similarity is a real between -1 and 1. -/

@[expose] public section

set_option maxRecDepth 16384

noncomputable section

namespace Cert.Hist.Range

open Idealize.ShloMosaic Cert.Pre_similarities_in_range Cert.Pre_similarities_in_range.Gen

/-- An extended real whose absolute value is at most one. -/
theorem real_of_abs_le (s : EReal) (h : max s (-s) ≤ 1) : ∃ σ : ℝ, s = (σ : EReal) ∧ -1 ≤ σ ∧ σ ≤ 1 := by
  obtain ⟨h1, h2⟩ := max_le_iff.mp h
  induction s using EReal.rec with
  | bot => exact absurd h2 (by rw [EReal.neg_bot]; exact not_le.mpr (EReal.coe_lt_top 1))
  | top => exact absurd h1 (not_le.mpr (EReal.coe_lt_top 1))
  | coe σ =>
    refine ⟨σ, rfl, ?_, by exact_mod_cast h1⟩
    have : -σ ≤ 1 := by exact_mod_cast h2
    linarith

/-- The predicate at a pair. -/
def inRange (x : FVec Ideal S1024x128 .f32) : IVec S1024x1024 1 :=
  ori
    (cmpf .ole (Host.absf (Host.dotGeneral dot_S1024x128_S128x1024_S1024x1024_1_0_0_1_n_n none x
      (transpose S128x1024 [1, 0] x transposes_S1024x128_S128x1024_1_0)))
      (broadcastInDim S1024x1024 ![] bcast_S_S1024x1024 (constant S_ .f32 0x3F800000#32)))
    (cmpi .sge
      (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0))))

/-- The conjunction over all pairs gives the predicate at each. -/
theorem inRange_of_fn (x : FVec Ideal S1024x128 .f32) (l : IVec S1024 32) (h : fn (F := Ideal) x l = fun _ => 1#1) (i j : Fin 1024) :
    inRange x (ix2 i j) = 1#1 := by
  haveI : Subsingleton S_.Idx := ⟨fun _ _ => funext fun a => a.elim0⟩
  exact Host.reduce_andi_all (inRange x) (constantI S_ 1 1#1) reducesTo_S1024x1024_S_d0_1 h_S_ ix0 (congrFun h ix0) (ix2 i j)

/-- Where the precondition holds, the similarity of rows `i < j` is a real between -1 and 1. -/
theorem sims (x : FVec Ideal S1024x128 .f32) (l : IVec S1024 32) (h : fn (F := Ideal) x l = fun _ => 1#1) (i j : Fin 1024) (hij : i < j) :
    ∃ σ : ℝ, simE x i j = (σ : EReal) ∧ -1 ≤ σ ∧ σ ≤ 1 := by
  have hp := inRange_of_fn x l h i j
  refine real_of_abs_le _ ?_
  revert hp
  pointwise [inRange]
  rw [WordCmp.cmpi_sge_ofNat (by omega) (by omega), decide_eq_false (p := (j : Nat) ≤ (i : Nat)) (by simpa using hij)]
  intro hp
  by_contra hn
  rw [decide_eq_false (by exact hn)] at hp
  exact absurd hp (by decide)

end Cert.Hist.Range
-- ==== Proof.lean ====
/- The proof of the certificate's claims: the frames come from the runs, and the algebraic claim from both results being
the histogram loss `Hist.result`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_similarities_in_range
public import proofs.«01_k».proof.Proof.Hist.Result
public import proofs.«01_k».proof.Proof.Hist.RefValue
public import proofs.«01_k».proof.Proof.Hist.Range
public import Idealize.ShloMosaic.Adequacy
public import Idealize.ShloMosaic.Init

@[expose] public section

noncomputable section

namespace Cert.Proof

open Idealize.ShloMosaic Idealize.SL.Sem

/-- The reference's run: its arguments end unchanged and every counter is zero (it has no semaphores). -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- Where every pair's similarity is between -1 and 1, the reference's result is the histogram loss. -/
theorem reference_value (m : (ℓ : Loc Cert.ReferenceIdeal.nD Cert.ReferenceIdeal.τ Cert.ReferenceIdeal.sig) → Buf (Elt Ideal) ℓ)
    (c : Dev Cert.ReferenceIdeal.nD) (x : Vec Ideal Cert.KernelIdeal.S1024x128 .f32) (l : Vec Ideal Cert.KernelIdeal.S1024 .i32)
    (hx : m ((c.tc : Thread Cert.ReferenceIdeal.nD Cert.ReferenceIdeal.τ).loc Cert.ReferenceIdeal.main_arg0) = x)
    (hl : m ((c.tc : Thread Cert.ReferenceIdeal.nD Cert.ReferenceIdeal.τ).loc Cert.ReferenceIdeal.main_arg1) = l)
    (h : Cert.Pre_similarities_in_range.fn (F := Ideal) x l = fun _ => 1#1) :
    Cert.ReferenceIdeal.Value.res_main_v83 m c = fun _ => Hist.result x fun i => l (ix1 i) := by
  rw [Hist.Ref.res_eq, hx, hl]
  funext i
  rw [show i = ix0 from funext fun a => a.elim0]
  exact Hist.Ref.total_value x (Hist.Range.sims x l h) l

/-- From equal arguments with every pair's similarity between -1 and 1, both programs end with the histogram loss. -/
theorem algebraic : Cert.algebraic_KernelIdeal_ReferenceIdeal_pre_similarities_in_range := by
  intro m g m' g' hpre hag
  refine ⟨fun c _ => Cert.KernelIdeal.Val.loss m c, (θ_run Cert.KernelIdeal.defs _ _).mono (fun r h c => ?_) (Cert.KernelIdeal.Val.run m g),
    (θ_run Cert.ReferenceIdeal.defs _ _).mono (fun r h c => ?_) (Cert.ReferenceIdeal.Value.run m' g')⟩
  · exact ⟨(h.1 c).1.trans (Cert.KernelIdeal.Val.W5_v6 m g c), (h.1 c).2⟩
  · exact ⟨(h c).1.trans (reference_value m' c _ _ (hag c).1 (hag c).2 (hpre c)), (h c).2⟩

theorem claim : Cert.Claim := ⟨Cert.Kernel.Gen.facts, Cert.KernelIdeal.Gen.facts, Cert.ReferenceIdeal.Gen.facts, Cert.Pre_similarities_in_range.Gen.facts,
  fun m ρ _ => Cert.Kernel.Gen.frame m ρ, fun m ρ _ => Cert.KernelIdeal.Gen.frame m ρ, fun m ρ _ => Cert.KernelIdeal.Gen.frame m ρ,
  fun m ρ _ => reference_quiescent m ρ, fun m ρ _ => reference_quiescent m ρ, trivial, algebraic⟩

end Cert.Proof

end
